-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![32, 256, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x256 : Shape := ⟨3, ![1, 256, 256]⟩
abbrev S256x256 : Shape := ⟨2, ![256, 256]⟩
abbrev S4x64x256 : Shape := ⟨3, ![4, 64, 256]⟩
abbrev S5x4x64x256 : Shape := ⟨4, ![5, 4, 64, 256]⟩
abbrev S5x4 : Shape := ⟨2, ![5, 4]⟩
abbrev S_ : Shape := ⟨0, ![]⟩
abbrev S1x64x256 : Shape := ⟨3, ![1, 64, 256]⟩
abbrev S64x256 : Shape := ⟨2, ![64, 256]⟩
abbrev S1x1 : Shape := ⟨2, ![1, 1]⟩
abbrev S1x1x64x256 : Shape := ⟨4, ![1, 1, 64, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x256, .bf16⟩
  | .hbm, ⟨1, _⟩ => ⟨S256x256, .f32⟩
  | .local _ .vmem, ⟨0, _⟩ => ⟨S1x256x256, .bf16⟩
  | .local _ .vmem, ⟨1, _⟩ => ⟨S256x256, .f32⟩
  | .local _ .vmem, ⟨2, _⟩ => ⟨S4x64x256, .bf16⟩
  | .local _ .vmem, ⟨3, _⟩ => ⟨S5x4x64x256, .bf16⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_2 : BitVec 32 := 1#32
  let v9 : BitVec 32 := Scalar.muli v3 c1_i32_2
  let v10 : BitVec 32 := Scalar.addi c0_i32 v9
  v10.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_4 : BitVec 32 := 1#32
  let v11 : BitVec 32 := Scalar.muli v4 c1_i32_4
  let v12 : BitVec 32 := Scalar.addi c0_i32_5 v11
  v12.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_7 : BitVec 32 := 1#32
  let v13 : BitVec 32 := Scalar.muli v5 c1_i32_7
  let v14 : BitVec 32 := Scalar.addi c0_i32_8 v13
  v14.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_10 : BitVec 32 := 1#32
  let v15 : BitVec 32 := Scalar.muli v6 c1_i32_10
  let v16 : BitVec 32 := Scalar.addi c0_i32_11 v15
  v16.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_13 : BitVec 32 := 1#32
  let v17 : BitVec 32 := Scalar.muli v7 c1_i32_13
  let v18 : BitVec 32 := Scalar.addi c0_i32_14 v17
  v18.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_39 : BitVec 32 := 1#32
  let v39 : BitVec 32 := Scalar.muli v3 c1_i32_39
  let v40 : BitVec 32 := Scalar.addi c0_i32_40 v39
  v40.toNat
def k0_dev7 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_52 : BitVec 32 := 1#32
  let v49 : BitVec 32 := Scalar.muli v3 c1_i32_52
  let v50 : BitVec 32 := Scalar.addi c0_i32_53 v49
  v50.toNat
def k0_dev8 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_64 : BitVec 32 := 1#32
  let v59 : BitVec 32 := Scalar.muli v3 c1_i32_64
  let v60 : BitVec 32 := Scalar.addi c0_i32_65 v59
  v60.toNat
def k0_dev9 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_77 : BitVec 32 := 1#32
  let v69 : BitVec 32 := Scalar.muli v3 c1_i32_77
  let v70 : BitVec 32 := Scalar.addi c0_i32_78 v69
  v70.toNat
def k0_dev10 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_125 : BitVec 32 := 1#32
  let v101 : BitVec 32 := Scalar.muli v4 c1_i32_125
  let v102 : BitVec 32 := Scalar.addi c0_i32_126 v101
  v102.toNat
def k0_dev11 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_173 : BitVec 32 := 1#32
  let v133 : BitVec 32 := Scalar.muli v4 c1_i32_173
  let v134 : BitVec 32 := Scalar.addi c0_i32_174 v133
  v134.toNat
def k0_dev12 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_221 : BitVec 32 := 1#32
  let v165 : BitVec 32 := Scalar.muli v4 c1_i32_221
  let v166 : BitVec 32 := Scalar.addi c0_i32_222 v165
  v166.toNat
def k0_dev13 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_269 : BitVec 32 := 1#32
  let v197 : BitVec 32 := Scalar.muli v4 c1_i32_269
  let v198 : BitVec 32 := Scalar.addi c0_i32_270 v197
  v198.toNat
def k0_dev14 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_317 : BitVec 32 := 1#32
  let v229 : BitVec 32 := Scalar.muli v5 c1_i32_317
  let v230 : BitVec 32 := Scalar.addi c0_i32_318 v229
  v230.toNat
def k0_dev15 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_365 : BitVec 32 := 1#32
  let v261 : BitVec 32 := Scalar.muli v5 c1_i32_365
  let v262 : BitVec 32 := Scalar.addi c0_i32_366 v261
  v262.toNat
def k0_dev16 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_413 : BitVec 32 := 1#32
  let v293 : BitVec 32 := Scalar.muli v5 c1_i32_413
  let v294 : BitVec 32 := Scalar.addi c0_i32_414 v293
  v294.toNat
def k0_dev17 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v5 : BitVec 32 := Scalar.xori v2 c4_i32
  let c1_i32_461 : BitVec 32 := 1#32
  let v325 : BitVec 32 := Scalar.muli v5 c1_i32_461
  let v326 : BitVec 32 := Scalar.addi c0_i32_462 v325
  v326.toNat
def k0_dev18 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_509 : BitVec 32 := 1#32
  let v357 : BitVec 32 := Scalar.muli v6 c1_i32_509
  let v358 : BitVec 32 := Scalar.addi c0_i32_510 v357
  v358.toNat
def k0_dev19 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_557 : BitVec 32 := 1#32
  let v389 : BitVec 32 := Scalar.muli v6 c1_i32_557
  let v390 : BitVec 32 := Scalar.addi c0_i32_558 v389
  v390.toNat
def k0_dev20 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_605 : BitVec 32 := 1#32
  let v421 : BitVec 32 := Scalar.muli v6 c1_i32_605
  let v422 : BitVec 32 := Scalar.addi c0_i32_606 v421
  v422.toNat
def k0_dev21 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v6 : BitVec 32 := Scalar.xori v2 c8_i32
  let c1_i32_653 : BitVec 32 := 1#32
  let v453 : BitVec 32 := Scalar.muli v6 c1_i32_653
  let v454 : BitVec 32 := Scalar.addi c0_i32_654 v453
  v454.toNat
def k0_dev22 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_701 : BitVec 32 := 1#32
  let v485 : BitVec 32 := Scalar.muli v7 c1_i32_701
  let v486 : BitVec 32 := Scalar.addi c0_i32_702 v485
  v486.toNat
def k0_dev23 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_749 : BitVec 32 := 1#32
  let v517 : BitVec 32 := Scalar.muli v7 c1_i32_749
  let v518 : BitVec 32 := Scalar.addi c0_i32_750 v517
  v518.toNat
def k0_dev24 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_797 : BitVec 32 := 1#32
  let v549 : BitVec 32 := Scalar.muli v7 c1_i32_797
  let v550 : BitVec 32 := Scalar.addi c0_i32_798 v549
  v550.toNat
def k0_dev25 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_845 : BitVec 32 := 1#32
  let v581 : BitVec 32 := Scalar.muli v7 c1_i32_845
  let v582 : BitVec 32 := Scalar.addi c0_i32_846 v581
  v582.toNat
abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x256x256 : Shape := ⟨3, ![32, 256, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S32x256x256, .bf16⟩
  | .hbm, ⟨1, _⟩ => ⟨S32x256x256, .f32⟩
  | .hbm, ⟨2, _⟩ => ⟨S_, .f32⟩
  | .hbm, ⟨3, _⟩ => ⟨S256x256, .f32⟩
  | .hbm, ⟨4, _⟩ => ⟨S256x256, .bf16⟩
  | .hbm, ⟨5, _⟩ => ⟨S256x256, .f32⟩
  | _, _ => ⟨S32x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.RunKernelIdeal.Prog.lean ====
/- The kernel's body as a sequence of steps, each written once for every mask `s` and every chunk `k`:
   the views it works on, the devices it addresses, and the equation of the printed body with the
   sequence. -/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL.Sem

variable {F : FTy → Type} [FloatOps F]

/-! ## Devices -/

/-- The mask of stage `s`: a device's partner in that stage is its own index, exclusive-or the mask. -/
def mask : Fin 5 → ℕ := ![1, 3, 4, 8, 16]

/-- The partner of device `c` in stage `s`. -/
def peer (s : Fin 5) (c : Dev nD) : Dev nD :=
  ⟨(c.val ^^^ mask s) % 32, Nat.mod_lt _ (by decide)⟩

/-- Partners are mutual. -/
theorem peer_peer : ∀ (s : Fin 5) (c : Dev nD), peer s (peer s c) = c := by decide +kernel

/-- The exchange of stage `s` as a permutation of the devices. -/
def swap (s : Fin 5) : Dev nD ≃ Dev nD := ⟨peer s, peer s, peer_peer s, peer_peer s⟩

/-- The device that the barrier's signal `s` addresses, as the body computes it. -/
def sigDev (s : Fin 5) (c : Dev nD) : Dev nD :=
  match s with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩

/-- The device that the copy of stage `s`, chunk `k` addresses, as the body computes it. -/
def cpyDev (s : Fin 5) (k : Fin 4) (c : Dev nD) : Dev nD :=
  match s, k with
  | 0, 0 => ⟨k0_dev6 c, k0_dev6_lt c⟩
  | 0, 1 => ⟨k0_dev7 c, k0_dev7_lt c⟩
  | 0, 2 => ⟨k0_dev8 c, k0_dev8_lt c⟩
  | 0, 3 => ⟨k0_dev9 c, k0_dev9_lt c⟩
  | 1, 0 => ⟨k0_dev10 c, k0_dev10_lt c⟩
  | 1, 1 => ⟨k0_dev11 c, k0_dev11_lt c⟩
  | 1, 2 => ⟨k0_dev12 c, k0_dev12_lt c⟩
  | 1, 3 => ⟨k0_dev13 c, k0_dev13_lt c⟩
  | 2, 0 => ⟨k0_dev14 c, k0_dev14_lt c⟩
  | 2, 1 => ⟨k0_dev15 c, k0_dev15_lt c⟩
  | 2, 2 => ⟨k0_dev16 c, k0_dev16_lt c⟩
  | 2, 3 => ⟨k0_dev17 c, k0_dev17_lt c⟩
  | 3, 0 => ⟨k0_dev18 c, k0_dev18_lt c⟩
  | 3, 1 => ⟨k0_dev19 c, k0_dev19_lt c⟩
  | 3, 2 => ⟨k0_dev20 c, k0_dev20_lt c⟩
  | 3, 3 => ⟨k0_dev21 c, k0_dev21_lt c⟩
  | 4, 0 => ⟨k0_dev22 c, k0_dev22_lt c⟩
  | 4, 1 => ⟨k0_dev23 c, k0_dev23_lt c⟩
  | 4, 2 => ⟨k0_dev24 c, k0_dev24_lt c⟩
  | 4, 3 => ⟨k0_dev25 c, k0_dev25_lt c⟩

/-- The barrier's signal `s` goes to the partner of stage `s`. -/
theorem sigDev_eq : ∀ (s : Fin 5) (c : Dev nD), sigDev s c = peer s c := by decide +kernel

/-- The copies of stage `s` go to the partner of stage `s`. -/
theorem cpyDev_eq : ∀ (s : Fin 5) (k : Fin 4) (c : Dev nD), cpyDev s k c = peer s c := by
  decide +kernel

/-! ## Memrefs and views -/

abbrev xM : Memref sig .tc .vmem S1x256x256 .bf16 := Memref.whole cc0_stg0_0
abbrev oM : Memref sig .tc .vmem S256x256 .f32 := Memref.whole cc0_stg1_0
abbrev aM : Memref sig .tc .vmem S4x64x256 .bf16 := Memref.whole cc0_scratch0
abbrev cM : Memref sig .tc .vmem S5x4x64x256 .bf16 := Memref.whole cc0_scratch1

theorem inb_x : ∀ (k : Fin 4) (a : Fin 3),
    (![0, 64 * k.val, 0] : Fin 3 → Nat) a + S1x64x256.size a ≤ S1x256x256.size a := by decide
theorem inb_o : ∀ (k : Fin 4) (a : Fin 2),
    (![64 * k.val, 0] : Fin 2 → Nat) a + S64x256.size a ≤ S256x256.size a := by decide
theorem inb_a : ∀ (k : Fin 4) (a : Fin 3),
    (![k.val, 0, 0] : Fin 3 → Nat) a + S1x64x256.size a ≤ S4x64x256.size a := by decide
theorem inb_c : ∀ (s : Fin 5) (k : Fin 4) (a : Fin 4),
    (![s.val, k.val, 0, 0] : Fin 4 → Nat) a + S1x1x64x256.size a ≤ S5x4x64x256.size a := by decide
theorem inb_s : ∀ (s : Fin 5) (k : Fin 4) (a : Fin 2),
    (![s.val, k.val] : Fin 2 → Nat) a + S1x1.size a ≤ S5x4.size a := by decide

/-- Rows `64 k … 64 k + 63` of the device's block of `x`. -/
abbrev xR (k : Fin 4) : Rect S1x256x256 :=
  Rect.unit (s := S1x256x256) ![0, 64 * k.val, 0] S1x64x256.size (inb_x k)
/-- Rows `64 k … 64 k + 63` of the result. -/
abbrev oR (k : Fin 4) : Rect S256x256 :=
  Rect.unit (s := S256x256) ![64 * k.val, 0] S64x256.size (inb_o k)
/-- Chunk `k` of the accumulator. -/
abbrev aR (k : Fin 4) : Rect S4x64x256 :=
  Rect.unit (s := S4x64x256) ![k.val, 0, 0] S1x64x256.size (inb_a k)
/-- The landing slot of stage `s`, chunk `k`. -/
abbrev cR (s : Fin 5) (k : Fin 4) : Rect S5x4x64x256 :=
  Rect.unit (s := S5x4x64x256) ![s.val, k.val, 0, 0] S1x1x64x256.size (inb_c s k)
abbrev sR (s : Fin 5) (k : Fin 4) : Rect S5x4 :=
  Rect.unit (s := S5x4) ![s.val, k.val] S1x1.size (inb_s s k)

/-- Chunk `k` of the accumulator, as a memref of 64 rows. -/
abbrev aV (k : Fin 4) : Memref sig .tc .vmem S64x256 .bf16 :=
  (aM.slice (aR k) (fun _ => rfl)).squeeze S64x256 squeezes_S1x64x256_S64x256
/-- The landing slot of stage `s`, chunk `k`, as a memref of 64 rows. -/
abbrev cV (s : Fin 5) (k : Fin 4) : Memref sig .tc .vmem S64x256 .bf16 :=
  (cM.slice (cR s k) (fun _ => rfl)).squeeze S64x256 squeezes_S1x1x64x256_S64x256

/-- The runtime's barrier semaphore. -/
abbrev barS : Sem sig := (SemArray.scalar (sig.barrier 0 rfl) : Sems sig S_).sem
/-- The send semaphore of stage `s`, chunk `k`. -/
abbrev sendS (s : Fin 5) (k : Fin 4) : DmaSem sig :=
  ((cc0_scratch2.slice (sR s k)).squeeze S_ squeezes_S1x1_S_).sem
/-- The receive semaphore of stage `s`, chunk `k`. -/
abbrev recvS (s : Fin 5) (k : Fin 4) : DmaSem sig :=
  ((cc0_scratch3.slice (sR s k)).squeeze S_ squeezes_S1x1_S_).sem

theorem words_a : ∀ k : Fin 4, (aR k).WholeWords (EltTy.packing .bf16) := by decide
theorem words_c : ∀ (s : Fin 5) (k : Fin 4), (cR s k).WholeWords (EltTy.packing .bf16) := by decide
theorem packed_a : ∀ k : Fin 4, (aR k).PackedRows (EltTy.packing .bf16) := by decide

theorem wordExact_a (k : Fin 4) : (aV k).view.WordExact :=
  ((Memref.isWhole_whole cc0_scratch0).wordExact_slice rfl _ (words_a k)).reshape _ _
theorem wordExact_c (s : Fin 5) (k : Fin 4) : (cV s k).view.WordExact :=
  ((Memref.isWhole_whole cc0_scratch1).wordExact_slice rfl _ (words_c s k)).reshape _ _

/-! ## The steps -/

/-- A program of the body's kind. -/
abbrev Pr (F : FTy → Type) : Type 1 := Prog (TpuEff nD τ sig (Elt F) Λ₀ .tc) PUnit.{1}

/-- What a chunk of the accumulator becomes when the landed values are added to it. -/
def addPay (a : Vec F S1x64x256 .bf16) (b : Vec F S1x1x64x256 .bf16) : Vec F S1x64x256 .bf16 :=
  shapeCast S1x64x256
    (addf (shapeCast S64x256 a shapeCasts_S1x64x256_S64x256 : FVec F S64x256 .bf16)
      (shapeCast S64x256 b shapeCasts_S1x1x64x256_S64x256))
    shapeCasts_S64x256_S1x64x256

/-- What is first put into a chunk of the accumulator. -/
def initPay (v : Vec F S1x64x256 .bf16) : Vec F S1x64x256 .bf16 :=
  shapeCast S1x64x256 (shapeCast S64x256 v shapeCasts_S1x64x256_S64x256) shapeCasts_S64x256_S1x64x256

/-- What is stored into the result from a chunk of the accumulator. -/
def outPay (a : Vec F S1x64x256 .bf16) : FVec F S64x256 .f32 :=
  extf .f32 (shapeCast S64x256 a shapeCasts_S1x64x256_S64x256 : FVec F S64x256 .bf16) bitsLt_bf16_f32

/-- Signal the barrier of stage `s`'s partner. -/
def sigP (s : Fin 5) (c : Dev nD) (q : Pr F) : Pr F :=
  Prog.op (.semSignal (Dev.tc (sigDev s c)) barS ((1 : ℕ) : ℤ)) fun _ => q

/-- Wait for the five signals of the barrier. -/
def barP (q : Pr F) : Pr F := Prog.op (.semWait barS ((5 : ℕ) : ℤ)) fun _ => q

/-- Put rows of `x` into chunk `k` of the accumulator. -/
def initP (k : Fin 4) (q : Pr F) : Pr F :=
  Prog.op (.load xM (xR k).toLoadRect (View.loadsAt_vmem h_S1x64x256)) fun v =>
  Prog.op (.load aM (aR k).toLoadRect (View.loadsAt_vmem h_S1x64x256)) fun _ =>
  Prog.op (.store aM (aR k) (initPay v) Finset.univ
    (View.stores_vmem h_S1x64x256
      ((Memref.isWhole_whole cc0_scratch0).storeExact_slice rfl _ (packed_a k)) (fun _ => rfl)) (.inl rfl))
    fun _ => q

/-- Start the copy of chunk `k` to the partner of stage `s`. -/
def sendP (s : Fin 5) (k : Fin 4) (c : Dev nD) (q : Pr F) : Pr F :=
  Prog.op (.enqueueDma (aV k) (.remote (Dev.tc (cpyDev s k c)) (cV s k) (.dma (sendS s k)))
    (.dma (recvS s k)) (wordExact_a k) (wordExact_c s k) ⟨⟨rfl, Or.inl rfl⟩, trivial⟩) fun _ => q

/-- Wait for both ends of stage `s`'s copies of chunk `k`, and add what has landed. -/
def addP (s : Fin 5) (k : Fin 4) (q : Pr F) : Pr F :=
  Prog.op (.waitDma2 (sendS s k) (cV s k) (aV k) (wordExact_c s k) (wordExact_a k)) fun _ =>
  Prog.op (.waitDma2 (recvS s k) (aV k) (cV s k) (wordExact_a k) (wordExact_c s k)) fun _ =>
  Prog.op (.load aM (aR k).toLoadRect (View.loadsAt_vmem h_S1x64x256)) fun a =>
  Prog.op (.load cM (cR s k).toLoadRect (View.loadsAt_vmem h_S1x1x64x256)) fun b =>
  Prog.op (.load aM (aR k).toLoadRect (View.loadsAt_vmem h_S1x64x256)) fun _ =>
  Prog.op (.store aM (aR k) (addPay a b) Finset.univ
    (View.stores_vmem h_S1x64x256
      ((Memref.isWhole_whole cc0_scratch0).storeExact_slice rfl _ (packed_a k)) (fun _ => rfl)) (.inl rfl))
    fun _ => q

/-- Put chunk `k` of the accumulator into its rows of the result. -/
def outP (k : Fin 4) (q : Pr F) : Pr F :=
  Prog.op (.load aM (aR k).toLoadRect (View.loadsAt_vmem h_S1x64x256)) fun a =>
  Prog.op (.load oM (oR k).toLoadRect (View.loadsAt_vmem h_S64x256)) fun _ =>
  Prog.op (.store oM (oR k) (outPay a) Finset.univ (View.stores_vmem_bits_univ h_S64x256 rfl) (.inl rfl))
    fun _ => q

/-- Add stage `s`'s values to chunk `k` and send the sum on in stage `s + 1`. -/
def hopP (s : Fin 4) (c : Dev nD) (k : Fin 4) (q : Pr F) : Pr F :=
  addP s.castSucc k (sendP s.succ k c q)

/-- A step for each of the four chunks in turn. -/
def chunks (f : Fin 4 → Pr F → Pr F) (q : Pr F) : Pr F := f 0 (f 1 (f 2 (f 3 q)))

/-- The body on device `c`, after the device has read its index. -/
def devP (c : Dev nD) : Pr F :=
  sigP 0 c <| sigP 1 c <| sigP 2 c <| sigP 3 c <| sigP 4 c <| barP <|
  chunks initP <| chunks (fun k => sendP 0 k c) <|
  chunks (hopP 0 c) <| chunks (hopP 1 c) <| chunks (hopP 2 c) <| chunks (hopP 3 c) <|
  chunks (addP 4) <| chunks outP <| Prog.ret ⟨⟩

/-- The whole body. -/
def bodyP : Pr F := Prog.op .deviceId devP

set_option maxRecDepth 65536 in
/-- The printed body is the sequence of these steps. -/
theorem body_eq :
    cc0_body (F := F) xM (Memref.isWhole_whole _) oM (Memref.isWhole_whole _) aM (Memref.isWhole_whole _)
      cM (Memref.isWhole_whole _) cc0_scratch2 cc0_scratch3 = bodyP := by
  rw [cc0_body_eq_skeleton]
  rfl

end Cert.KernelIdeal.Run
-- ==== Proof.RunKernelIdeal.Protocol.lean ====
/- The exchange as a protocol. Every device signals its five partners at the barrier; with its signal to the
   partner of stage `s` it lends that partner its four landing slots of stage `s`. Each copy then pays two
   cells: the sender's send cell with the accumulator's chunk given back, the receiver's receive cell with
   the landing slot at the values that were sent. -/
module

public import proofs.«01_k».proof.Proof.RunKernelIdeal.Prog
public import proofs.«01_k».proof.Proof.Gen.KernelIdeal.Launch
public import Idealize.ShloMosaic.Lib.Memref

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part and the exchange's -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Copies, cells -/

/-- A copy: its stage and its chunk. -/
abbrev Cp : Type := Fin 5 × Fin 4

/-- The place of a copy in the order in which a device starts its copies. -/
def flat (p : Cp) : ℕ := 4 * p.1.val + p.2.val

/-- The copy at a place. -/
def unflat (n : ℕ) : Cp := (Fin.ofNat 5 (n / 4), Fin.ofNat 4 n)

theorem unflat_flat : ∀ p : Cp, unflat (flat p) = p := by decide
theorem flat_inj {p q : Cp} (h : flat p = flat q) : p = q := by
  rw [← unflat_flat p, h, unflat_flat]
theorem flat_lt : ∀ p : Cp, flat p < 20 := by decide

theorem send_val : ∀ p : Cp, (sendS p.1 p.2).val = 2 + flat p := by decide
theorem recv_val : ∀ p : Cp, (recvS p.1 p.2).val = 22 + flat p := by decide

abbrev barCell (c : Dev nD) : GSem nD τ sig := ((c : Thread nD τ), .reg barS)
abbrev sendCell (c : Dev nD) (p : Cp) : GSem nD τ sig := ((c : Thread nD τ), .dma (sendS p.1 p.2))
abbrev recvCell (c : Dev nD) (p : Cp) : GSem nD τ sig := ((c : Thread nD τ), .dma (recvS p.1 p.2))

/-- The credit of one copy. -/
abbrev N : ℕ := (cV 0 0).view.dmaCredit
theorem N_pos : 0 < N := View.dmaCredit_pos _ (by decide)
theorem credit_c (p : Cp) : (cV p.1 p.2).view.dmaCredit = N := rfl
theorem credit_a : ∀ k : Fin 4, (aV k).view.dmaCredit = N := by decide

/-! ## The values -/

/-- The 64 rows that device `d` holds in chunk `k` of its accumulator when `s` stages are done, from the
    blocks `x` of all devices: first its own rows, then after each stage its sum with its partner's. -/
def V (x : Dev nD → S1x256x256.Idx → Elt F .bf16) : ℕ → Fin 4 → Dev nD → FVec F S64x256 .bf16
  | 0, k, d => shapeCast S64x256 (xM.view.readAt (Elt F) (xR k).toLoadRect (x d) : Vec F S1x64x256 .bf16)
      shapeCasts_S1x64x256_S64x256
  | s + 1, k, d => addf (V x s k d) (V x s k (peer (Fin.ofNat 5 s) d))

/-- One stage adds the partner's values. -/
theorem V_succ (x : Dev nD → S1x256x256.Idx → Elt F .bf16) (s : Fin 5) (k : Fin 4) (d : Dev nD) :
    V x (s.val + 1) k d = addf (V x s.val k d) (V x s.val k (peer s d)) := by
  rw [V, show Fin.ofNat 5 s.val = s from Fin.ofNat_val_eq_self s]

variable (x : Dev nD → S1x256x256.Idx → Elt F .bf16)

/-! ## The schedule -/

/-- The landing slot of copy `p` on device `c`, at any contents. -/
def slot (c : Dev nD) (p : Cp) : sProp 𝕄 :=
  iprop(∃ f, (cV p.1 p.2).view.loc (c : Thread nD τ) ↦[(cV p.1 p.2).view.set]{fullShare} f)

/-- Chunk `k` of device `c`'s accumulator, holding `X`. -/
def chunk (c : Dev nD) (k : Fin 4) (X : FVec F S64x256 .bf16) : sProp 𝕄 :=
  owns (c : Thread nD τ) (aV k) fullShare X

/-- The landing slot of copy `p` on device `c`, holding `X`. -/
def landed (c : Dev nD) (p : Cp) (X : FVec F S64x256 .bf16) : sProp 𝕄 :=
  owns (c : Thread nD τ) (cV p.1 p.2) fullShare X

/-- What device `c` is lent by its partner of stage `s`: that partner's slots of the stage. -/
def barPay (c : Dev nD) (s : Fin 5) : sProp 𝕄 := bigSep Finset.univ fun k : Fin 4 => slot (peer s c) (s, k)
/-- What comes back with the send cell of copy `p`: the chunk at the values sent. -/
def sendPay (c : Dev nD) (p : Cp) : sProp 𝕄 := chunk c p.2 (V x p.1.val p.2 c)
/-- What comes with the receive cell of copy `p`: the slot at the partner's values. -/
def recvPay (c : Dev nD) (p : Cp) : sProp 𝕄 := landed c p (V x p.1.val p.2 (peer p.1 c))

instance slot_storable (c : Dev nD) (p : Cp) : BI.Storable (upEmb : UEmb _ 𝕄) (slot (F := F) c p) := by
  unfold slot; infer_instance
instance barPay_storable (c : Dev nD) (s : Fin 5) : BI.Storable (upEmb : UEmb _ 𝕄) (barPay (F := F) c s) := by
  unfold barPay; infer_instance
instance sendPay_storable (c : Dev nD) (p : Cp) : BI.Storable (upEmb : UEmb _ 𝕄) (sendPay x c p) := by
  unfold sendPay chunk; infer_instance
instance recvPay_storable (c : Dev nD) (p : Cp) : BI.Storable (upEmb : UEmb _ 𝕄) (recvPay x c p) := by
  unfold recvPay landed; infer_instance

/-- The duties of a semaphore: five at the barrier, one at each copy's semaphores. -/
def dutiesOf : SemLoc sig → Finset (Fin 5)
  | .reg _ => Finset.univ
  | .dma q => if 2 ≤ q.val then {0} else ∅
def amountOf : SemLoc sig → ℕ
  | .reg _ => 1
  | .dma _ => N
def payOf (c : Dev nD) (d : Fin 5) : SemLoc sig → sProp 𝕄
  | .reg _ => barPay c d
  | .dma q => if q.val < 22 then sendPay x c (unflat (q.val - 2)) else recvPay x c (unflat (q.val - 22))

/-- One round: duty `s` of a barrier is paid by the partner of stage `s`, one unit; a copy's cells have the
    one duty `0` of the copy's credit. -/
def Rd : Rounds.Schedule (GSem nD τ sig) (Fin 5) 𝕄 where
  duties g r := if r = 0 ∧ g.1.2 = .tc then dutiesOf g.2 else ∅
  unitless _ := False
  amount g _ _ := amountOf g.2
  payload g _ d := payOf x g.1.1 d g.2
  amount_pos g _ _ _ := by
    cases g.2
    · exact Nat.one_pos
    · exact N_pos

instance Rd_payload_storable (g : GSem nD τ sig) (r : ℕ) (d : Fin 5) :
    BI.Storable (upEmb : UEmb _ 𝕄) ((Rd x).payload g r d) := by
  show BI.Storable upEmb (payOf x g.1.1 d g.2)
  cases g.2
  · unfold payOf; infer_instance
  · dsimp only [payOf]; split <;> infer_instance

section Sched
variable (c : Dev nD) (p : Cp)

theorem duties_bar : (Rd x).duties (barCell c) 0 = Finset.univ := rfl
theorem duties_send : (Rd x).duties (sendCell c p) 0 = {0} :=
  if_pos (show 2 ≤ (sendS p.1 p.2).val by rw [send_val]; omega)
theorem duties_recv : (Rd x).duties (recvCell c p) 0 = {0} :=
  if_pos (show 2 ≤ (recvS p.1 p.2).val by rw [recv_val]; omega)
theorem duties_later (g : GSem nD τ sig) : ∀ r, 1 ≤ r → (Rd x).duties g r = ∅ :=
  fun r hr => if_neg fun h => by omega

theorem expect_bar : (Rd x).expect (barCell c) 0 = 5 := by
  unfold Schedule.expect Schedule.amountOf
  rw [duties_bar]; rfl
theorem expect_send : (Rd x).expect (sendCell c p) 0 = N := by
  unfold Schedule.expect Schedule.amountOf
  rw [duties_send, Finset.sum_singleton]; rfl
theorem expect_recv : (Rd x).expect (recvCell c p) 0 = N := by
  unfold Schedule.expect Schedule.amountOf
  rw [duties_recv, Finset.sum_singleton]; rfl

theorem payload_bar (s : Fin 5) : (Rd x).payload (barCell c) 0 s = barPay c s := rfl
theorem payload_send (d : Fin 5) : (Rd x).payload (sendCell c p) 0 d = sendPay x c p := by
  show (if (sendS p.1 p.2).val < 22 then sendPay x c (unflat ((sendS p.1 p.2).val - 2))
    else recvPay x c (unflat ((sendS p.1 p.2).val - 22))) = _
  have := flat_lt p
  rw [send_val, if_pos (by omega), Nat.add_sub_cancel_left, unflat_flat]
theorem payload_recv (d : Fin 5) : (Rd x).payload (recvCell c p) 0 d = recvPay x c p := by
  show (if (recvS p.1 p.2).val < 22 then sendPay x c (unflat ((recvS p.1 p.2).val - 2))
    else recvPay x c (unflat ((recvS p.1 p.2).val - 22))) = _
  rw [recv_val, if_neg (by omega), Nat.add_sub_cancel_left, unflat_flat]

/-- All that the barrier's round brings. -/
theorem rest_bar : bigSep ((Rd x).duties (barCell c) 0 \ ∅) (fun d => (Rd x).payload (barCell c) 0 d)
    = bigSep Finset.univ fun s => barPay c s := by
  rw [Finset.sdiff_empty]; rfl
theorem rest_send : bigSep ((Rd x).duties (sendCell c p) 0 \ ∅) (fun d => (Rd x).payload (sendCell c p) 0 d)
    = sendPay x c p := by
  rw [Finset.sdiff_empty, duties_send, bigSep_singleton, payload_send]
theorem rest_recv : bigSep ((Rd x).duties (recvCell c p) 0 \ ∅) (fun d => (Rd x).payload (recvCell c p) 0 d)
    = recvPay x c p := by
  rw [Finset.sdiff_empty, duties_recv, bigSep_singleton, payload_recv]

end Sched

/-! ## What is owed, and the levels -/

/-- What device `c` still owes when `n` of its copies are started: the credit of the others, each to the
    receive cell of the copy on the partner. -/
def Orem (c : Dev nD) (n : ℕ) : CellTallies nD τ sig Unit :=
  ∑ p ∈ (Finset.univ : Finset Cp).filter (n ≤ flat ·), tallyAt (recvCell (peer p.1 c) p) () N

/-- What device `c` still owes when `n` of its signals are sent: one unit for each other, and all copies. -/
def Obar (c : Dev nD) (n : ℕ) : CellTallies nD τ sig Unit :=
  Orem c 0 + ∑ s ∈ (Finset.univ : Finset (Fin 5)).filter (n ≤ ·.val), tallyAt (barCell (peer s c)) () 1

/-- What device `c` owes at launch. -/
abbrev O₀ (c : Dev nD) : CellTallies nD τ sig Unit := Obar c 0

theorem Orem_step (c : Dev nD) (p : Cp) :
    Orem c (flat p) = Orem c (flat p + 1) + tallyAt (recvCell (peer p.1 c) p) () N := by
  unfold Orem
  rw [show (Finset.univ : Finset Cp).filter (flat p ≤ flat ·)
      = insert p ((Finset.univ : Finset Cp).filter (flat p + 1 ≤ flat ·)) from by
    ext q
    simp only [Finset.mem_filter, Finset.mem_univ, true_and, Finset.mem_insert]
    refine ⟨fun h => ?_, fun h => ?_⟩
    · rcases Nat.eq_or_lt_of_le h with h | h
      · exact .inl (flat_inj h.symm)
      · exact .inr h
    · rcases h with rfl | h
      · exact le_rfl
      · exact (Nat.le_succ _).trans h]
  rw [Finset.sum_insert (by simp), add_comm]

theorem Orem_end (c : Dev nD) : Orem c 20 = 0 := by
  unfold Orem
  rw [Finset.filter_false_of_mem fun p _ => Nat.not_le.mpr (flat_lt p), Finset.sum_empty]

theorem Obar_step (c : Dev nD) (s : Fin 5) :
    Obar c s.val = Obar c (s.val + 1) + tallyAt (barCell (peer s c)) () 1 := by
  unfold Obar
  rw [show (Finset.univ : Finset (Fin 5)).filter (s.val ≤ ·.val)
      = insert s ((Finset.univ : Finset (Fin 5)).filter (s.val + 1 ≤ ·.val)) from by
    ext q
    simp only [Finset.mem_filter, Finset.mem_univ, true_and, Finset.mem_insert]
    rw [Fin.ext_iff]; omega]
  rw [Finset.sum_insert (by simp), add_comm (tallyAt _ _ _), add_assoc]

theorem Obar_end (c : Dev nD) : Obar c 5 = Orem c 0 := by
  unfold Obar
  rw [Finset.filter_false_of_mem fun s _ => Nat.not_le.mpr s.isLt, Finset.sum_empty, add_zero]

/-- The index set of a core's cells. -/
def L (g : GSem nD τ sig) : Finset Unit := if g.1.2 = .tc then {()} else ∅
/-- The level of a cell: the copies' receive cells in the order of their starts, above the barrier, above all
    others. -/
def lvOf : SemLoc sig → ℕ
  | .reg _ => 1
  | .dma q => if q.val < 22 then 0 else q.val - 20
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (p : Cp) : lvOf (.dma (recvS p.1 p.2)) = 2 + flat p := by
  dsimp only [lvOf]; rw [recv_val, if_neg (by omega)]; omega
theorem lv_send (p : Cp) : lvOf (.dma (sendS p.1 p.2)) = 0 := by
  have := flat_lt p
  dsimp only [lvOf]; rw [send_val, if_pos (by omega)]

theorem sum_apply {I : Type} (S : Finset I) (f : I → CellTallies nD τ sig Unit) (g : GSem nD τ sig) (u : Unit) :
    (∑ i ∈ S, f i) g u = ∑ i ∈ S, f i g u := by
  rw [Finset.sum_apply, Finsupp.finsetSum_apply]

/-- A cell that is owed something after `n` copies is the receive cell of a later copy. -/
theorem Orem_pos {c : Dev nD} {n : ℕ} {g : GSem nD τ sig} {u : Unit} (h : 0 < Orem c n g u) :
    ∃ p : Cp, n ≤ flat p ∧ g = recvCell (peer p.1 c) p := by
  unfold Orem at h
  rw [sum_apply] at h
  obtain ⟨p, hp, hne⟩ := Finset.exists_ne_zero_of_sum_ne_zero (Nat.pos_iff_ne_zero.mp h)
  refine ⟨p, (Finset.mem_filter.mp hp).2, ?_⟩
  by_contra hg
  rw [tallyAt_apply, if_neg (fun h => hg h.1)] at hne
  exact hne rfl

/-- A cell that is owed something after `n` signals is a receive cell of some copy or a partner's barrier. -/
theorem Obar_pos {c : Dev nD} {n : ℕ} {g : GSem nD τ sig} {u : Unit} (h : 0 < Obar c n g u) :
    (∃ p : Cp, g = recvCell (peer p.1 c) p) ∨ ∃ s : Fin 5, g = barCell (peer s c) := by
  unfold Obar at h
  rw [Pi.add_apply, Finsupp.add_apply] at h
  rcases Nat.eq_zero_or_pos (Orem c 0 g u) with h0 | h0
  · rw [h0, zero_add, sum_apply] at h
    obtain ⟨s, hs, hne⟩ := Finset.exists_ne_zero_of_sum_ne_zero (Nat.pos_iff_ne_zero.mp h)
    refine .inr ⟨s, ?_⟩
    by_contra hg
    rw [tallyAt_apply, if_neg (fun h => hg h.1)] at hne
    exact hne rfl
  · obtain ⟨p, -, hp⟩ := Orem_pos h0
    exact .inl ⟨p, hp⟩

/-- A device may wait, owing the copies from place `n` on, on any semaphore below their level. -/
theorem mayWait_rem (c : Dev nD) (sm : SemLoc sig) (n : ℕ) (h : lvOf sm < 2 + n) :
    (levAts L lv : sProp 𝕄) ⊢ MayWait (c : Thread nD τ) sm () (Orem c n) :=
  MayOwe.of_cut (L := L) (lev := lv) (lvOf sm)
    (fun p hp => by rw [Finset.mem_singleton.mp hp, L_tc]; exact Finset.mem_singleton_self _)
    (fun g u hg => by
      obtain ⟨p, -, rfl⟩ := Orem_pos hg
      rw [L_tc]; exact Finset.mem_singleton_self _)
    (fun p hp => by rw [Finset.mem_singleton.mp hp]; exact le_rfl)
    (fun g u hg => by
      obtain ⟨p, hp, rfl⟩ := Orem_pos hg
      show lvOf sm < lvOf (.dma (recvS p.1 p.2))
      rw [lv_recv]; omega)

/-- The staging semaphores may be waited on owing everything, or nothing. -/
theorem mayWait_stage (c : Dev nD) (q : DmaSem sig) (hq : q.val < 22) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases Obar_pos hg with ⟨p, rfl⟩ | ⟨s, rfl⟩ <;> · rw [L_tc]; exact Finset.mem_singleton_self _)
      (fun p hp => by
        rw [Finset.mem_singleton.mp hp]
        show lvOf (.dma q) ≤ 0
        exact (if_pos hq).le)
      (fun g u hg => by
        rcases Obar_pos hg with ⟨p, rfl⟩ | ⟨s, rfl⟩
        · show 0 < lvOf (.dma (recvS p.1 p.2))
          rw [lv_recv]; omega
        · exact Nat.one_pos)
  · rw [MayWait_zero]; iintro -; iempintro

end Cert.KernelIdeal.Run
-- ==== Proof.RunKernelIdeal.Steps.lean ====
/- The rule of each step of the body: what it takes and what it gives back. -/
module

public import proofs.«01_k».proof.Proof.RunKernelIdeal.Protocol
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of the body on device `c`. -/
abbrev WP (c : Dev nD) (q : Pr F) (Q : PUnit → sProp 𝕄) : sProp 𝕄 :=
  wp frame (wpE (defs₀ (F := F)) 𝒱₀ (c : Thread nD τ) none) Set.univ q Q

/-! ## Chunks of the accumulator and landing slots -/

/-- Loading chunk `k` of the accumulator yields its values, in the loaded shape. -/
theorem wp_load_chunk (c : Dev nD) (k : Fin 4) (X : FVec F S64x256 .bf16) {hl : aM.view.LoadsAt (aR k).toLoadRect}
    {K : Vec F S1x64x256 .bf16 → Pr F} {Q : PUnit → sProp 𝕄} :
    chunk c k X ⊢ iprop((∀ v : Vec F S1x64x256 .bf16,
        ⌜shapeCast S64x256 v shapeCasts_S1x64x256_S64x256 = X⌝ -∗ chunk c k X -∗ WP c (K v) Q)
      -∗ WP c (.op (.load aM (aR k).toLoadRect hl) K) Q) := by
  unfold chunk owns
  iintro ⟨%f, %hf, H⟩ Hk
  iapply (wp_load_rect 𝒱₀ (c : Thread nD τ) none Set.univ (m := aM) (r := aR k) (f := f)
    (S := (aV k).view.set) (by rw [View.set_reshape])) $$ H
  iintro H
  iapply Hk $$ [] [H]
  · ipureintro; exact hf
  · iexists f
    isplitr; · ipureintro; exact hf
    iexact H

/-- Loading a landing slot yields its values, in the loaded shape. -/
theorem wp_load_landed (c : Dev nD) (p : Cp) (X : FVec F S64x256 .bf16)
    {hl : cM.view.LoadsAt (cR p.1 p.2).toLoadRect}
    {K : Vec F S1x1x64x256 .bf16 → Pr F} {Q : PUnit → sProp 𝕄} :
    landed c p X ⊢ iprop((∀ v : Vec F S1x1x64x256 .bf16,
        ⌜shapeCast S64x256 v shapeCasts_S1x1x64x256_S64x256 = X⌝ -∗ landed c p X -∗ WP c (K v) Q)
      -∗ WP c (.op (.load cM (cR p.1 p.2).toLoadRect hl) K) Q) := by
  unfold landed owns
  iintro ⟨%f, %hf, H⟩ Hk
  iapply (wp_load_rect 𝒱₀ (c : Thread nD τ) none Set.univ (m := cM) (r := cR p.1 p.2) (f := f)
    (S := (cV p.1 p.2).view.set) (by rw [View.set_reshape])) $$ H
  iintro H
  iapply Hk $$ [] [H]
  · ipureintro; exact hf
  · iexists f
    isplitr; · ipureintro; exact hf
    iexact H

/-- A chunk written with `Y`, in the stored shape, reads `Y`. -/
theorem read_write_chunk (k : Fin 4) (f : aM.view.ty.Contents (Elt F)) (Y : FVec F S64x256 .bf16) :
    (aV k).view.read (Elt F)
        ((aM.access (aR k)).write (Elt F) f (shapeCast S1x64x256 Y shapeCasts_S64x256_S1x64x256) Finset.univ) = Y := by
  have h : (aM.access (aR k)).read (Elt F) ((aM.access (aR k)).write (Elt F) f
      (shapeCast S1x64x256 Y shapeCasts_S64x256_S1x64x256) Finset.univ)
      = shapeCast S1x64x256 Y shapeCasts_S64x256_S1x64x256 := View.read_write_univ _ _
  calc _ = shapeCast S64x256 ((aM.access (aR k)).read (Elt F) ((aM.access (aR k)).write (Elt F) f
      (shapeCast S1x64x256 Y shapeCasts_S64x256_S1x64x256) Finset.univ)) shapeCasts_S1x64x256_S64x256 := rfl
    _ = Y := by rw [h]; exact shapeCast_shapeCast _ _ _

/-- Storing into chunk `k` of the accumulator leaves it at the stored values. -/
theorem wp_store_chunk (c : Dev nD) (k : Fin 4) (X Y : FVec F S64x256 .bf16) {w : Vec F S1x64x256 .bf16}
    (hw : w = shapeCast S1x64x256 Y shapeCasts_S64x256_S1x64x256)
    {hx : (aM.access (aR k)).Stores Finset.univ} {hm : (Finset.univ : Finset (aR k).shape.Idx) = Finset.univ ∨ ∀ a, (aR k).stride a = 1}
    {K : PUnit → Pr F} {Q : PUnit → sProp 𝕄} :
    chunk c k X ⊢ iprop((chunk c k Y -∗ WP c (K ⟨⟩) Q)
      -∗ WP c (.op (.store aM (aR k) w Finset.univ hx hm) K) Q) := by
  subst hw
  unfold chunk owns
  iintro ⟨%f, -, H⟩ Hk
  iapply (wp_store 𝒱₀ (c : Thread nD τ) none Set.univ (m := aM) (r := aR k) (f := f)
    (S := (aV k).view.set) (Mk := Finset.univ) (by rw [View.set_reshape]; exact subset_rfl)) $$ H
  iintro H
  iapply Hk
  iexists ((aM.access (aR k)).write (Elt F) f (shapeCast S1x64x256 Y shapeCasts_S64x256_S1x64x256) Finset.univ)
  isplitr; · ipureintro; exact read_write_chunk k f Y
  iexact H

/-! ## What is shared: the cells' invariants and marks -/

/-- A device's cells: the barrier, the send cells, the receive cells. -/
abbrev CI : Type := Unit ⊕ (Cp ⊕ Cp)

def csem : CI → SemLoc sig
  | .inl _ => .reg barS
  | .inr (.inl p) => .dma (sendS p.1 p.2)
  | .inr (.inr p) => .dma (recvS p.1 p.2)

abbrev kcell (ck : Dev nD × CI) : GSem nD τ sig := ((ck.1 : Thread nD τ), csem ck.2)

variable (x : Dev nD → S1x256x256.Idx → Elt F .bf16)

/-- Every cell's invariant, that every cell has reached its round, and the levels. -/
def env (K : Dev nD × CI → ℕ) : sProp 𝕄 :=
  iprop((bigSep Finset.univ fun ck : Dev nD × CI => cellInv ER (Rd x) (K ck) (kcell ck))
    ∗ (bigSep Finset.univ fun ck : Dev nD × CI => reached ER (kcell ck) 0)
    ∗ levAts L lv)

instance env_persistent (K : Dev nD × CI → ℕ) : BI.Persistent (env x K) := by unfold env; infer_instance

theorem env_inv (K : Dev nD × CI → ℕ) (ck : Dev nD × CI) : env x K ⊢ cellInv ER (Rd x) (K ck) (kcell ck) := by
  unfold env
  iintro ⟨H, -, -⟩
  iapply (show (bigSep Finset.univ fun ck : Dev nD × CI => (cellInv ER (Rd x) (K ck) (kcell ck) : sProp 𝕄))
    ⊢ cellInv ER (Rd x) (K ck) (kcell ck) from bigSep_elim (Finset.mem_univ ck))
  iexact H
theorem env_reached (K : Dev nD × CI → ℕ) (ck : Dev nD × CI) : env x K ⊢ reached ER (kcell ck) 0 := by
  unfold env
  iintro ⟨-, H, -⟩
  iapply (show (bigSep Finset.univ fun ck : Dev nD × CI => (reached ER (kcell ck) 0 : sProp 𝕄))
    ⊢ reached ER (kcell ck) 0 from bigSep_elim (Finset.mem_univ ck))
  iexact H
/-- A device may wait, owing the copies from place `n` on, on any semaphore below their level. -/
theorem env_mayWait (K : Dev nD × CI → ℕ) (c : Dev nD) (sm : SemLoc sig) (n : ℕ) (h : lvOf sm < 2 + n) :
    env x K ⊢ MayWait (c : Thread nD τ) sm () (Orem c n) := by
  unfold env
  iintro ⟨-, -, H⟩
  iapply (mayWait_rem c sm n h)
  iexact H

/-! ## What a device holds of a copy, before, in flight and after -/

/-- What a device owes, whatever it has waited for. -/
def owesE (c : Dev nD) (O : CellTallies nD τ sig Unit) : sProp 𝕄 := iprop(∃ W, owes (c : Thread nD τ) O W)

/-- Of copy `p` before anything of it: the positions in its two cells, the tokens to pay the own send cell
    and the partner's receive cell, and the credit to wait for what comes in. -/
def Idle (c : Dev nD) (p : Cp) : sProp 𝕄 :=
  iprop(atPos ER (sendCell c p) 0 ∅ 0 ∗ atPos ER (recvCell c p) 0 ∅ 0
    ∗ dutyTok ER (sendCell c p) 0 0 ∗ dutyTok ER (recvCell (peer p.1 c) p) 0 0
    ∗ cred (tallyAt (recvCell c p) () N))
/-- Of copy `p` before its start: the same and the partner's slot. -/
def Ready (c : Dev nD) (p : Cp) : sProp 𝕄 := iprop(Idle c p ∗ slot (peer p.1 c) p)
/-- Of copy `p` in flight: the positions and the credits of both cells. -/
def Flight (c : Dev nD) (p : Cp) : sProp 𝕄 :=
  iprop(atPos ER (sendCell c p) 0 ∅ 0 ∗ atPos ER (recvCell c p) 0 ∅ 0
    ∗ cred (tallyAt (sendCell c p) () N) ∗ cred (tallyAt (recvCell c p) () N))
/-- Of copy `p` when it is done: both counters at zero, and the own slot again. -/
def Done (c : Dev nD) (p : Cp) : sProp 𝕄 :=
  iprop(semVal (sendCell c p) 0 ∗ semVal (recvCell c p) 0 ∗ slot c p)

variable (K : Dev nD × CI → ℕ)

/-- The signal of stage `s`: the own slots of the stage go to the partner. -/
theorem step_sig (c : Dev nD) (s : Fin 5) {q : Pr F} {Q : PUnit → sProp 𝕄} :
    iprop(env x K ∗ owesE c (Obar c s.val) ∗ dutyTok ER (barCell (peer s c)) 0 s
        ∗ bigSep Finset.univ fun k : Fin 4 => slot c (s, k))
      ⊢ iprop((owesE c (Obar c (s.val + 1)) -∗ WP c q Q) -∗ WP c (sigP s c q) Q) := by
  unfold sigP
  rw [sigDev_eq]
  unfold owesE
  iintro ⟨#He, ⟨%W, HO⟩, Ht, Hs⟩ Hk
  ihave #HI := (env_inv x K (peer s c, .inl ())) $$ He
  ihave #HR := (env_reached x K (peer s c, .inl ())) $$ He
  iapply (Rounds.wp_signal 𝒱₀ ER (Rd x) (c : Thread nD τ) none (dst := (peer s c : Thread nD τ))
    (κ := K (peer s c, .inl ())) (r := 0) (d := s) (k' := 1) (by rw [duties_bar]; exact Finset.mem_univ _) rfl ()
    (Obar c (s.val + 1)) (Obar_step c s) (W := W)) $$ [HO Ht Hs]
  · isplitr; · iexact HI
    isplitl [HO]; · iexact HO
    isplitl [Ht]; · iexact Ht
    isplitl [Hs]
    · rw [payload_bar]; unfold barPay; rw [peer_peer]; iexact Hs
    iexact HR
  iintro HO
  iapply Hk
  iexists W; iexact HO

/-- The barrier's wait: the partners' slots are there, and the barrier's counter is at zero for good. -/
theorem step_bar (c : Dev nD) {q : Pr F} {Q : PUnit → sProp 𝕄} :
    iprop(env x K ∗ owesE c (Orem c 0) ∗ cred (tallyAt (barCell c) () 5) ∗ atPos ER (barCell c) 0 ∅ 0)
      ⊢ iprop(((owesE c (Orem c 0) ∗ semVal (barCell c) 0
            ∗ bigSep Finset.univ fun p : Cp => slot (peer p.1 c) p) -∗ WP c q Q)
          -∗ WP c (barP q) Q) := by
  unfold barP owesE
  iintro ⟨#He, ⟨%W, HO⟩, Hc, Hat⟩ Hk
  ihave #HI := (env_inv x K (c, .inl ())) $$ He
  iapply (Rounds.wp_wait_rest_token 𝒱₀ ER (Rd x) (c : Thread nD τ) none (κ := K (c, .inl ()))
      (wpE_semWait_eq 𝒱₀ (c : Thread nD τ) none Set.univ) (Set.mem_univ _) () (O := Orem c 0) (W := W)
      (R := 0) (m := 0) (T := ∅) (k' := 5) (by rw [Nat.zero_add, expect_bar])) $$ [Hc HO Hat]
  · isplitr; · iexact HI
    isplitl [Hc]; · iexact Hc
    isplitl [HO]; · iexact HO
    isplitr; · iapply (env_mayWait x K c (.reg barS) 0 (by decide)); iexact He
    iexact Hat
  iintro ⟨HO, Hat, -, Hpay⟩
  ihave Hp := (Entails.of_eq (rest_bar x c)) $$ Hpay
  imod (Rounds.cell_close ER (Rd x) (Set.mem_univ (K (c, .inl ()))) (fun h => h) (R := 0 + 1)
    (duties_later x (barCell c))) $$ [Hat] with Hz
  · isplitr; · iexact HI
    iexact Hat
  iapply Hk
  isplitl [HO]; · iexists _; iexact HO
  isplitl [Hz]; · iexact Hz
  rw [bigSep_univ_prod]
  iexact Hp

/-- The start of copy `p`, on the device that the copy is addressed to. -/
theorem step_send_at (c n : Dev nD) (p : Cp) (hn : n = peer p.1 c) {q : Pr F} {Q : PUnit → sProp 𝕄}
    {h₁ : (aV p.2).view.WordExact} {h₂ : (cV p.1 p.2).view.WordExact} {h₃} :
    iprop(env x K ∗ owesE c (Orem c (flat p)) ∗ chunk c p.2 (V x p.1.val p.2 c) ∗ Ready c p)
      ⊢ iprop(((owesE c (Orem c (flat p + 1)) ∗ Flight c p) -∗ WP c q Q)
        -∗ WP c (.op (.enqueueDma (aV p.2) (.remote (Dev.tc n) (cV p.1 p.2) (.dma (sendS p.1 p.2)))
            (.dma (recvS p.1 p.2)) h₁ h₂ h₃) fun _ => q) Q) := by
  subst hn
  unfold owesE Ready Idle slot chunk owns
  iintro ⟨#He, ⟨%W, HO⟩, ⟨%f, %hf, Ha⟩, ⟨HaS, HaR, HtS, HtR, HcR⟩, ⟨%fd, Hd⟩⟩ Hk
  ihave #HI := (env_inv x K (c, .inr (.inl p))) $$ He
  ihave #HI' := (env_inv x K (peer p.1 c, .inr (.inr p))) $$ He
  ihave #HR := (env_reached x K (c, .inr (.inl p))) $$ He
  ihave #HR' := (env_reached x K (peer p.1 c, .inr (.inr p))) $$ He
  iapply (Rounds.wp_send_pointsTo 𝒱₀ ER (Rd x) (c : Thread nD τ) none (c' := (peer p.1 c : Thread nD τ))
    (κ₁ := K (c, .inr (.inl p))) (κ₂ := K (peer p.1 c, .inr (.inr p)))
    (r₁ := 0) (r₂ := 0) (d₁ := 0) (d₂ := 0) (fs := f) (fd := fd) (q := fullShare)
    (by rw [duties_send]; exact Finset.mem_singleton_self _) (by rw [duties_recv]; exact Finset.mem_singleton_self _)
    () () N rfl rfl rfl (Orem c (flat p + 1)) (Orem_step c p) (W := W)
    (by
      rw [payload_send]; unfold sendPay chunk owns
      iintro H; iexists f
      isplitr; · ipureintro; exact hf
      iexact H)
    (by
      rw [payload_recv]; unfold recvPay landed owns
      iintro H; iexists _
      isplitr
      rotate_left
      · iexact H
      ipureintro
      rw [View.read_write_univ, peer_peer]; exact hf)) $$ [HO Ha HtS HtR Hd]
  · isplitr; · iexact HI
    isplitr; · iexact HI'
    isplitl [Ha]; · iexact Ha
    isplitl [Hd]; · iexact Hd
    isplitl [HO]; · iexact HO
    isplitl [HtS]; · iexact HtS
    isplitr; · iexact HR
    isplitl [HtR]; · iexact HtR
    iexact HR'
  iintro ⟨HcS, HO⟩
  iapply Hk
  isplitl [HO]; · iexists W; iexact HO
  unfold Flight
  isplitl [HaS]; · iexact HaS
  isplitl [HaR]; · iexact HaR
  isplitl [HcS]; · iexact HcS
  iexact HcR

/-- The start of copy `p`. -/
theorem step_send (c : Dev nD) (p : Cp) {q : Pr F} {Q : PUnit → sProp 𝕄} :
    iprop(env x K ∗ owesE c (Orem c (flat p)) ∗ chunk c p.2 (V x p.1.val p.2 c) ∗ Ready c p)
      ⊢ iprop(((owesE c (Orem c (flat p + 1)) ∗ Flight c p) -∗ WP c q Q) -∗ WP c (sendP p.1 p.2 c q) Q) :=
  step_send_at x K c _ p (cpyDev_eq p.1 p.2 c)

/-- The waits of copy `p`: the own chunk is back, the partner's values have landed, and both counters are at
    zero for good. -/
theorem step_add (c : Dev nD) (p : Cp) (n : ℕ) (hn : flat p < n) {q : Pr F} {Q : PUnit → sProp 𝕄} :
    iprop(env x K ∗ owesE c (Orem c n) ∗ Flight c p)
      ⊢ iprop(((owesE c (Orem c n) ∗ Done c p ∗ chunk c p.2 (V x (p.1.val + 1) p.2 c)) -∗ WP c q Q)
        -∗ WP c (addP p.1 p.2 q) Q) := by
  unfold addP owesE Flight
  iintro ⟨#He, ⟨%W, HO⟩, HaS, HaR, HcS, HcR⟩ Hk
  ihave #HI := (env_inv x K (c, .inr (.inl p))) $$ He
  ihave #HI' := (env_inv x K (c, .inr (.inr p))) $$ He
  iapply (Rounds.wp_wait_rest_token 𝒱₀ ER (Rd x) (c : Thread nD τ) none (κ := K (c, .inr (.inl p)))
      (wpE_waitDma2_eq 𝒱₀ (c : Thread nD τ) none Set.univ) (Set.mem_univ _) () (O := Orem c n) (W := W)
      (R := 0) (m := 0) (T := ∅) (k' := (aV p.2).view.dmaCredit)
      (by rw [Nat.zero_add, expect_send, credit_a])) $$ [HcS HO HaS]
  · isplitr; · iexact HI
    isplitl [HcS]; · rw [credit_a]; iexact HcS
    isplitl [HO]; · iexact HO
    isplitr; · iapply (env_mayWait x K c (.dma (sendS p.1 p.2)) n (by rw [lv_send]; omega)); iexact He
    iexact HaS
  iintro ⟨HO, HaS, -, Hpay⟩
  ihave Ha := (Entails.of_eq (rest_send x c p)) $$ Hpay
  imod (Rounds.cell_close ER (Rd x) (Set.mem_univ (K (c, .inr (.inl p)))) (fun h => h) (R := 0 + 1)
    (duties_later x (sendCell c p))) $$ [HaS] with Hz
  · isplitr; · iexact HI
    iexact HaS
  iapply (Rounds.wp_wait_rest_token 𝒱₀ ER (Rd x) (c : Thread nD τ) none (κ := K (c, .inr (.inr p)))
      (wpE_waitDma2_eq 𝒱₀ (c : Thread nD τ) none Set.univ) (Set.mem_univ _) () (O := Orem c n)
      (R := 0) (m := 0) (T := ∅) (k' := (cV p.1 p.2).view.dmaCredit)
      (by rw [Nat.zero_add, expect_recv])) $$ [HcR HO HaR]
  · isplitr; · iexact HI'
    isplitl [HcR]; · iexact HcR
    isplitl [HO]; · iexact HO
    isplitr; · iapply (env_mayWait x K c (.dma (recvS p.1 p.2)) n (by rw [lv_recv]; omega)); iexact He
    iexact HaR
  iintro ⟨HO, HaR, -, Hpay⟩
  ihave Hl := (Entails.of_eq (rest_recv x c p)) $$ Hpay
  imod (Rounds.cell_close ER (Rd x) (Set.mem_univ (K (c, .inr (.inr p)))) (fun h => h) (R := 0 + 1)
    (duties_later x (recvCell c p))) $$ [HaR] with Hz'
  · isplitr; · iexact HI'
    iexact HaR
  unfold sendPay recvPay
  iapply (wp_load_chunk c p.2 _) $$ Ha
  iintro %a %ha Ha
  iapply (wp_load_landed c p _) $$ Hl
  iintro %b %hb Hl
  iapply (wp_load_chunk c p.2 _) $$ Ha
  iintro %a' - Ha
  iapply (wp_store_chunk c p.2 _ (V x (p.1.val + 1) p.2 c)
    (show addPay a b = _ by unfold addPay; rw [ha, hb, V_succ])) $$ Ha
  iintro Ha
  iapply Hk
  isplitl [HO]; · iexists _; iexact HO
  isplitr [Ha]
  · unfold Done
    isplitl [Hz]; · iexact Hz
    isplitl [Hz']; · iexact Hz'
    unfold landed owns slot
    icases Hl with ⟨%f, -, Hl⟩
    iexists f; iexact Hl
  iexact Ha

end Cert.KernelIdeal.Run
-- ==== Proof.RunKernelIdeal.Walk.lean ====
/- The body as a whole: from the shared cells, a device's own positions, credits, tokens and buffers, to the
   result, the buffers and every counter at zero. -/
module

public import proofs.«01_k».proof.Proof.RunKernelIdeal.Steps
public import Idealize.ShloMosaic.Lib.ReshapeSlab

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over few indices -/

theorem bigSep_four (Φ : Fin 4 → sProp 𝕄) :
    bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) :
    bigSep Finset.univ Φ = iprop(Φ 0 ∗ Φ 1 ∗ Φ 2 ∗ Φ 3 ∗ Φ 4) :=
  bigSep_univ_eq_bigSepL [0, 1, 2, 3, 4] (by decide) (by decide) Φ

variable (x : Dev nD → S1x256x256.Idx → Elt F .bf16) (K : Dev nD × CI → ℕ)

/-- Four steps in turn: what each takes and gives is its own, and `I` is passed on. -/
theorem chunks_walk (c : Dev nD) (I : ℕ → sProp 𝕄) (A B : Fin 4 → sProp 𝕄) (f : Fin 4 → Pr F → Pr F)
    {Q : PUnit → sProp 𝕄}
    (H : ∀ (k : Fin 4) (q : Pr F), iprop(env x K ∗ I k.val ∗ A k)
      ⊢ iprop(((I (k.val + 1) ∗ B k) -∗ WP c q Q) -∗ WP c (f k q) Q)) (q : Pr F) :
    iprop(env x K ∗ I 0 ∗ bigSep Finset.univ A)
      ⊢ iprop(((I 4 ∗ bigSep Finset.univ B) -∗ WP c q Q) -∗ WP c (chunks f q) Q) := by
  have H0 : ∀ q, iprop(env x K ∗ I 0 ∗ A 0) ⊢ iprop(((I 1 ∗ B 0) -∗ WP c q Q) -∗ WP c (f 0 q) Q) := H 0
  have H1 : ∀ q, iprop(env x K ∗ I 1 ∗ A 1) ⊢ iprop(((I 2 ∗ B 1) -∗ WP c q Q) -∗ WP c (f 1 q) Q) := H 1
  have H2 : ∀ q, iprop(env x K ∗ I 2 ∗ A 2) ⊢ iprop(((I 3 ∗ B 2) -∗ WP c q Q) -∗ WP c (f 2 q) Q) := H 2
  have H3 : ∀ q, iprop(env x K ∗ I 3 ∗ A 3) ⊢ iprop(((I 4 ∗ B 3) -∗ WP c q Q) -∗ WP c (f 3 q) Q) := H 3
  unfold chunks
  rw [bigSep_four, bigSep_four]
  iintro ⟨#He, HI, H0, H1, H2, H3⟩ Hk
  iapply (H0 _) $$ [HI H0]
  · isplitr; · iexact He
    isplitl [HI]; · iexact HI
    iexact H0
  iintro ⟨HI, G0⟩
  iapply (H1 _) $$ [HI H1]
  · isplitr; · iexact He
    isplitl [HI]; · iexact HI
    iexact H1
  iintro ⟨HI, G1⟩
  iapply (H2 _) $$ [HI H2]
  · isplitr; · iexact He
    isplitl [HI]; · iexact HI
    iexact H2
  iintro ⟨HI, G2⟩
  iapply (H3 _) $$ [HI H3]
  · isplitr; · iexact He
    isplitl [HI]; · iexact HI
    iexact H3
  iintro ⟨HI, G3⟩
  iapply Hk
  isplitl [HI]; · iexact HI
  isplitl [G0]; · iexact G0
  isplitl [G1]; · iexact G1
  isplitl [G2] <;> iassumption

/-! ## The first values of the accumulator -/

/-- A whole staging buffer of device `c`. -/
abbrev stg (c : Dev nD) (b : Ref sig .tc) (X : b.ty.Contents (Elt F)) : sProp 𝕄 :=
  (((c : Thread nD τ).loc b) ↦{fullShare} X)

/-- Chunk `k` of device `c`'s accumulator, at any contents. -/
def anyChunk (c : Dev nD) (k : Fin 4) : sProp 𝕄 :=
  iprop(∃ f, (aV k).view.loc (c : Thread nD τ) ↦[(aV k).view.set]{fullShare} f)

theorem chunk_of_any (c : Dev nD) (k : Fin 4) : anyChunk (F := F) c k ⊢ iprop(∃ X, chunk c k X) := by
  unfold anyChunk chunk owns
  iintro ⟨%f, H⟩
  iexists _, f
  isplitr; · (ipureintro; rfl)
  iexact H
theorem any_of_chunk (c : Dev nD) (k : Fin 4) (X : FVec F S64x256 .bf16) : chunk c k X ⊢ anyChunk c k := by
  unfold anyChunk chunk owns
  iintro ⟨%f, -, H⟩
  iexists f; iexact H

/-- Chunk `k` gets the device's own rows. -/
theorem step_init (c : Dev nD) (k : Fin 4) {q : Pr F} {Q : PUnit → sProp 𝕄} :
    iprop(env x K ∗ stg c cc0_stg0_0 (x c) ∗ anyChunk c k)
      ⊢ iprop(((stg c cc0_stg0_0 (x c) ∗ chunk c k (V x 0 k c)) -∗ WP c q Q) -∗ WP c (initP k q) Q) := by
  unfold initP
  iintro ⟨-, Hx, Ha⟩ Hk
  ihave Ha := (chunk_of_any c k) $$ Ha
  icases Ha with ⟨%X, Ha⟩
  iapply (wp_load 𝒱₀ (c : Thread nD τ) none Set.univ (m := xM) (Finset.subset_univ _)) $$ Hx
  iintro Hx
  iapply (wp_load_chunk c k X) $$ Ha
  iintro %a - Ha
  iapply (wp_store_chunk c k X (V x 0 k c) (show initPay _ = _ from rfl)) $$ Ha
  iintro Ha
  iapply Hk
  isplitl [Hx] <;> iassumption

/-! ## The result -/

/-- The chunk that an entry of the result lies in, and its place there. -/
def rowK (i : S256x256.Idx) : Fin 4 := ⟨(i 0).val / 64, by have h : (i 0).val < 256 := (i 0).isLt; omega⟩
def rowY (i : S256x256.Idx) : S64x256.Idx := fun
  | ⟨0, _⟩ => ⟨(i 0).val % 64, Nat.mod_lt _ (by decide)⟩
  | ⟨1, _⟩ => ⟨(i 1).val, (i 1).isLt⟩

/-- The result of device `c`: the chunks after five stages, one below the other, in the result's type. -/
def outAt (c : Dev nD) : S256x256.Idx → Elt F .f32 := fun i =>
  (extf .f32 (V x 5 (rowK i) c) bitsLt_bf16_f32 : FVec F S64x256 .f32) (rowY i)

theorem emb_row (i : S256x256.Idx) : (oM.access (oR (rowK i))).emb (rowY i) = i := by
  funext a
  apply Fin.ext
  show (oR (rowK i)).off a + (oR (rowK i)).stride a * (rowY i a).val = (i a).val
  match a with
  | ⟨0, _⟩ => show 64 * ((i 0).val / 64) + 1 * ((i 0).val % 64) = (i 0).val; omega
  | ⟨1, _⟩ => show 0 + 1 * (i 1).val = (i 1).val; omega

/-- Different chunks are different rows of the result. -/
theorem disjoint_rows {k k' : Fin 4} (h : k ≠ k') :
    Disjoint (oM.access (oR k)).set (oM.access (oR k')).set :=
  View.disjoint_slice_of_sep _ _ _ (0 : Fin 2) rfl rfl (by
    show 64 * k.val + 64 ≤ 64 * k'.val ∨ 64 * k'.val + 64 ≤ 64 * k.val
    have := fun e => h (Fin.ext e)
    omega)

/-- The result buffer with its first `n` chunks written. -/
def outInv (c : Dev nD) (n : ℕ) : sProp 𝕄 :=
  iprop(∃ f : S256x256.Idx → Elt F .f32,
    ⌜∀ k : Fin 4, k.val < n → ∀ y, f ((oM.access (oR k)).emb y)
      = (extf .f32 (V x 5 k c) bitsLt_bf16_f32 : FVec F S64x256 .f32) y⌝ ∗ stg c cc0_stg1_0 f)

theorem outInv_start (c : Dev nD) (f : S256x256.Idx → Elt F .f32) : stg c cc0_stg1_0 f ⊢ outInv x c 0 := by
  unfold outInv
  iintro H
  iexists f
  isplitr; · (ipureintro; exact fun k h => absurd h (Nat.not_lt_zero _))
  iexact H

theorem outInv_end (c : Dev nD) : outInv x c 4 ⊢ stg c cc0_stg1_0 (outAt x c) := by
  unfold outInv
  iintro ⟨%f, %hf, H⟩
  rw [show f = outAt x c from funext fun i => by
    have h := hf (rowK i) (rowK i).isLt (rowY i)
    rw [emb_row] at h
    exact h]
  iexact H

/-- Chunk `k` of the accumulator goes to its rows of the result. -/
theorem step_out (c : Dev nD) (k : Fin 4) {q : Pr F} {Q : PUnit → sProp 𝕄} :
    iprop(env x K ∗ outInv x c k.val ∗ chunk c k (V x 5 k c))
      ⊢ iprop(((outInv x c (k.val + 1) ∗ anyChunk c k) -∗ WP c q Q) -∗ WP c (outP k q) Q) := by
  unfold outP outInv
  iintro ⟨-, ⟨%f, %hf, Ho⟩, Ha⟩ Hk
  iapply (wp_load_chunk c k _) $$ Ha
  iintro %a %ha Ha
  iapply (wp_load 𝒱₀ (c : Thread nD τ) none Set.univ (m := oM) (Finset.subset_univ _)) $$ Ho
  iintro Ho
  iapply (wp_store 𝒱₀ (c : Thread nD τ) none Set.univ (m := oM) (r := oR k) (Mk := Finset.univ) (Finset.subset_univ _)) $$ Ho
  iintro Ho
  iapply Hk
  isplitl [Ho]
  · iexists _
    isplitr
    rotate_left
    · iexact Ho
    ipureintro
    intro k' hk' y
    by_cases h : k' = k
    · subst h
      refine (View.write_emb_of_mem _ _ (Finset.mem_univ y)).trans ?_
      show outPay a y = _
      unfold outPay; rw [ha]
    · refine (View.write_of_not_mem _ _ _ fun hm => ?_).trans (hf k' (by
        have := fun e => h (Fin.ext e)
        omega) y)
      exact Finset.disjoint_left.mp (disjoint_rows (k := k') (k' := k) h) (View.emb_mem_set _ y) (View.setOn_subset_set _ _ hm)
  iapply (any_of_chunk c k _); iexact Ha

/-! ## A stage, and the whole body -/

/-- Chunk `k` at the end of stage `s` and at the start of the next. -/
theorem step_hop (c : Dev nD) (s k : Fin 4) {q : Pr F} {Q : PUnit → sProp 𝕄} :
    iprop(env x K ∗ owesE c (Orem c (4 * (s.val + 1) + k.val)) ∗ Flight c (s.castSucc, k) ∗ Ready c (s.succ, k))
      ⊢ iprop(((owesE c (Orem c (4 * (s.val + 1) + (k.val + 1))) ∗ Done c (s.castSucc, k) ∗ Flight c (s.succ, k))
          -∗ WP c q Q) -∗ WP c (hopP s c k q) Q) := by
  unfold hopP
  iintro ⟨#He, HO, HF, HR⟩ Hk
  iapply (step_add x K c (s.castSucc, k) (4 * (s.val + 1) + k.val) (by
    show 4 * s.val + k.val < _
    omega)) $$ [HO HF]
  · isplitr; · iexact He
    isplitl [HO]; · iexact HO
    iexact HF
  iintro ⟨HO, HD, Ha⟩
  iapply (step_send x K c (s.succ, k)) $$ [HO Ha HR]
  · isplitr; · iexact He
    isplitl [HO]; · iexact HO
    isplitl [Ha]; · iexact Ha
    iexact HR
  iintro ⟨HO, HF⟩
  iapply Hk
  isplitl [HO]; · iexact HO
  isplitl [HD]; · iexact HD
  iexact HF

/-- One whole stage: all copies of stage `s` end and all of the next start. -/
theorem stage_hop (c : Dev nD) (s : Fin 4) {q : Pr F} {Q : PUnit → sProp 𝕄} :
    iprop(env x K ∗ owesE c (Orem c (4 * (s.val + 1)))
        ∗ (bigSep Finset.univ fun k : Fin 4 => Flight c (s.castSucc, k))
        ∗ bigSep Finset.univ fun k : Fin 4 => Ready c (s.succ, k))
      ⊢ iprop(((owesE c (Orem c (4 * (s.val + 2)))
          ∗ (bigSep Finset.univ fun k : Fin 4 => Done c (s.castSucc, k))
          ∗ bigSep Finset.univ fun k : Fin 4 => Flight c (s.succ, k)) -∗ WP c q Q)
        -∗ WP c (chunks (hopP s c) q) Q) := by
  rw [← bigSep_sep', ← bigSep_sep']
  exact chunks_walk x K c (fun j => owesE c (Orem c (4 * (s.val + 1) + j))) _ _ (hopP s c) (fun k q => step_hop x K c s k) q

/-- What a device starts the body with. -/
def bodyIn (c : Dev nD) (f : S256x256.Idx → Elt F .f32) : sProp 𝕄 :=
  iprop(env x K ∗ atPos ER (barCell c) 0 ∅ 0 ∗ cred (tallyAt (barCell c) () 5) ∗ owesE c (O₀ c)
    ∗ (bigSep Finset.univ fun s : Fin 5 => dutyTok ER (barCell (peer s c)) 0 s)
    ∗ (bigSep Finset.univ fun p : Cp => Idle c p)
    ∗ (bigSep Finset.univ fun p : Cp => slot c p)
    ∗ (bigSep Finset.univ fun k : Fin 4 => anyChunk c k)
    ∗ stg c cc0_stg0_0 (x c) ∗ stg c cc0_stg1_0 f)

/-- What a device ends the body with. -/
def bodyOut (c : Dev nD) : sProp 𝕄 :=
  iprop(owesE c 0 ∗ semVal (barCell c) 0
    ∗ (bigSep Finset.univ fun p : Cp => Done c p)
    ∗ (bigSep Finset.univ fun k : Fin 4 => anyChunk c k)
    ∗ stg c cc0_stg0_0 (x c) ∗ stg c cc0_stg1_0 (outAt x c))

/-- The five signals. -/
theorem signals (c : Dev nD) {q : Pr F} {Q : PUnit → sProp 𝕄} :
    iprop(env x K ∗ owesE c (O₀ c) ∗ (bigSep Finset.univ fun s : Fin 5 => dutyTok ER (barCell (peer s c)) 0 s)
        ∗ bigSep Finset.univ fun s : Fin 5 => bigSep Finset.univ fun k : Fin 4 => slot c (s, k))
      ⊢ iprop((owesE c (Orem c 0) -∗ WP c q Q)
        -∗ WP c (sigP 0 c <| sigP 1 c <| sigP 2 c <| sigP 3 c <| sigP 4 c q) Q) := by
  rw [← Obar_end, bigSep_five, bigSep_five]
  iintro ⟨#He, HO, ⟨T0, T1, T2, T3, T4⟩, ⟨S0, S1, S2, S3, S4⟩⟩ Hk
  iapply (step_sig x K c 0) $$ [HO T0 S0]
  · isplitr; · iexact He
    isplitl [HO]; · iexact HO
    isplitl [T0]; · iexact T0
    iexact S0
  iintro HO
  iapply (step_sig x K c 1) $$ [HO T1 S1]
  · isplitr; · iexact He
    isplitl [HO]; · iexact HO
    isplitl [T1]; · iexact T1
    iexact S1
  iintro HO
  iapply (step_sig x K c 2) $$ [HO T2 S2]
  · isplitr; · iexact He
    isplitl [HO]; · iexact HO
    isplitl [T2]; · iexact T2
    iexact S2
  iintro HO
  iapply (step_sig x K c 3) $$ [HO T3 S3]
  · isplitr; · iexact He
    isplitl [HO]; · iexact HO
    isplitl [T3]; · iexact T3
    iexact S3
  iintro HO
  iapply (step_sig x K c 4) $$ [HO T4 S4]
  · isplitr; · iexact He
    isplitl [HO]; · iexact HO
    isplitl [T4]; · iexact T4
    iexact S4
  iintro HO
  iapply Hk
  iexact HO

/-- The body takes a device from its start to its end. -/
theorem sound_body (c : Dev nD) (f : S256x256.Idx → Elt F .f32) :
    bodyIn x K c f ⊢ WP c (devP c) (fun _ => bodyOut x c) := by
  unfold bodyIn devP
  rw [bigSep_univ_prod (fun p : Cp => slot (F := F) c p)]
  iintro ⟨#He, Hat, HcB, HO, HT, HI, HS, HA, Hx, Ho⟩
  iapply (signals x K c) $$ [HO HT HS]
  · isplitr; · iexact He
    isplitl [HO]; · iexact HO
    isplitl [HT]; · iexact HT
    iexact HS
  iintro HO
  iapply (step_bar x K c) $$ [HO HcB Hat]
  · isplitr; · iexact He
    isplitl [HO]; · iexact HO
    isplitl [HcB]; · iexact HcB
    iexact Hat
  iintro ⟨HO, HzB, HS⟩
  ihave HR := (show iprop((bigSep Finset.univ fun p : Cp => Idle (F := F) c p) ∗ bigSep Finset.univ fun p : Cp => slot (peer p.1 c) p)
      ⊢ iprop((bigSep Finset.univ fun k : Fin 4 => Ready c (0, k)) ∗ (bigSep Finset.univ fun k : Fin 4 => Ready c (1, k))
        ∗ (bigSep Finset.univ fun k : Fin 4 => Ready c (2, k)) ∗ (bigSep Finset.univ fun k : Fin 4 => Ready c (3, k))
        ∗ (bigSep Finset.univ fun k : Fin 4 => Ready c (4, k))) from by
    rw [← bigSep_sep', bigSep_univ_prod, bigSep_five]; exact Entails.refl _) $$ [HI HS]
  · isplitl [HI]; · iexact HI
    iexact HS
  icases HR with ⟨R0, R1, R2, R3, R4⟩
  iapply (chunks_walk x K c (fun _ => stg c cc0_stg0_0 (x c)) _ _ initP (fun k q => step_init x K c k)) $$ [Hx HA]
  · isplitr; · iexact He
    isplitl [Hx]; · iexact Hx
    iexact HA
  iintro ⟨Hx, HA⟩
  iapply (chunks_walk x K c (fun j => owesE c (Orem c j))
    (fun k => iprop(chunk c k (V x 0 k c) ∗ Ready c (0, k))) (fun k => Flight c (0, k)) (fun k => sendP 0 k c)
    (fun k q => by
      have h := step_send x K c (0, k) (q := q) (Q := fun _ => bodyOut x c)
      rw [show flat (0, k) = k.val from Nat.zero_add _] at h
      exact h)) $$ [HO HA R0]
  · isplitr; · iexact He
    isplitl [HO]; · iexact HO
    rw [bigSep_sep']
    isplitl [HA]; · iexact HA
    iexact R0
  iintro ⟨HO, HF⟩
  iapply (stage_hop x K c 0) $$ [HO HF R1]
  · isplitr; · iexact He
    isplitl [HO]; · iexact HO
    isplitl [HF]; · iexact HF
    iexact R1
  iintro ⟨HO, D0, HF⟩
  iapply (stage_hop x K c 1) $$ [HO HF R2]
  · isplitr; · iexact He
    isplitl [HO]; · iexact HO
    isplitl [HF]; · iexact HF
    iexact R2
  iintro ⟨HO, D1, HF⟩
  iapply (stage_hop x K c 2) $$ [HO HF R3]
  · isplitr; · iexact He
    isplitl [HO]; · iexact HO
    isplitl [HF]; · iexact HF
    iexact R3
  iintro ⟨HO, D2, HF⟩
  iapply (stage_hop x K c 3) $$ [HO HF R4]
  · isplitr; · iexact He
    isplitl [HO]; · iexact HO
    isplitl [HF]; · iexact HF
    iexact R4
  iintro ⟨HO, D3, HF⟩
  iapply (chunks_walk x K c (fun _ => owesE c (Orem c 20)) (fun k => Flight c (4, k))
    (fun k => iprop(Done c (4, k) ∗ chunk c k (V x 5 k c))) (addP 4)
    (fun k q => step_add x K c (4, k) 20 (flat_lt _))) $$ [HO HF]
  · isplitr; · iexact He
    isplitl [HO]; · iexact HO
    iexact HF
  rw [bigSep_sep', Orem_end]
  iintro ⟨HO, D4, HA⟩
  ihave Ho := (outInv_start x c f) $$ Ho
  iapply (chunks_walk x K c (outInv x c) (fun k => chunk c k (V x 5 k c)) (fun k => anyChunk c k) outP
    (fun k q => step_out x K c k)) $$ [Ho HA]
  · isplitr; · iexact He
    isplitl [Ho]; · iexact Ho
    iexact HA
  iintro ⟨Ho, HA⟩
  unfold WP
  rw [wp_ret]; imodintro
  unfold bodyOut
  isplitl [HO]; · iexact HO
  isplitl [HzB]; · iexact HzB
  isplitl [D0 D1 D2 D3 D4]
  · rw [bigSep_univ_prod, bigSep_five]
    isplitl [D0]; · iexact D0
    isplitl [D1]; · iexact D1
    isplitl [D2]; · iexact D2
    isplitl [D3]; · iexact D3
    iexact D4
  isplitl [HA]; · iexact HA
  isplitl [Hx]; · iexact Hx
  iapply (outInv_end x c); iexact Ho

end Cert.KernelIdeal.Run
-- ==== Proof.RunKernelIdeal.Cells.lean ====
/- The cells and tokens at the launch: what is minted, how it is dealt to the devices that use it, and what
   the devices together owe each cell. -/
module

public import proofs.«01_k».proof.Proof.RunKernelIdeal.Walk
public import Idealize.ShloMosaic.Lib.Pipeline.Launch
public import Idealize.ShloMosaic.Lib.Pipeline.Kit

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens as finite sets -/

/-- A number that tells a device's cells apart. -/
def num : SemLoc sig → ℕ
  | .reg _ => 0
  | .dma q => q.val

theorem num_send (p : Cp) : num (csem (.inr (.inl p))) = 2 + flat p := send_val p
theorem num_recv (p : Cp) : num (csem (.inr (.inr p))) = 22 + flat p := recv_val p
theorem num_bar (u : Unit) : num (csem (.inl u)) = 0 := rfl

theorem csem_injective : Function.Injective csem := by
  intro a b h
  have h := congrArg num h
  rcases a with a | a | a <;> rcases b with b | b | b <;>
    simp only [num_send, num_recv, num_bar] at h
  · rfl
  · omega
  · omega
  · omega
  · rw [flat_inj (by omega : flat a = flat b)]
  · have := flat_lt a; omega
  · omega
  · have := flat_lt b; omega
  · rw [flat_inj (by omega : flat a = flat b)]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All cells of the exchange. -/
def allCells : Finset (GSem nD τ sig) := Finset.univ.map ⟨kcell, kcell_injective⟩

/-- A device's cells' duties: the barrier's five, one for each send and receive cell. -/
abbrev TI : Type := Fin 5 ⊕ (Cp ⊕ Cp)

def tokCell : TI → CI
  | .inl _ => .inl ()
  | .inr p => .inr p
def tokDuty : TI → Fin 5
  | .inl s => s
  | .inr _ => 0

abbrev tokOf (ct : Dev nD × TI) : GSem nD τ sig × ℕ × Fin 5 := (kcell (ct.1, tokCell ct.2), 0, tokDuty ct.2)

theorem tokOf_injective : Function.Injective tokOf := by
  rintro ⟨c, t⟩ ⟨c', t'⟩ h
  have h1 := kcell_injective (congrArg Prod.fst h)
  have h2 : tokDuty t = tokDuty t' := congrArg (fun y => y.2.2) h
  have hc : c = c' := congrArg Prod.fst h1
  have hk : tokCell t = tokCell t' := congrArg Prod.snd h1
  have ht : t = t' := by
    rcases t with t | t <;> rcases t' with t' | t'
    · exact congrArg Sum.inl h2
    · cases hk
    · cases hk
    · exact congrArg Sum.inr (Sum.inr.inj hk)
  rw [hc, ht]

/-- All duties' tokens. -/
def allToks : Finset (GSem nD τ sig × ℕ × Fin 5) := Finset.univ.map ⟨tokOf, tokOf_injective⟩

/-! ## Tokens, as minted and as dealt -/

/-- The tokens of the duties of device `c`'s cells. -/
def ownToks (c : Dev nD) : sProp 𝕄 :=
  iprop((bigSep Finset.univ fun s : Fin 5 => dutyTok ER (barCell c) 0 s)
    ∗ (bigSep Finset.univ fun p : Cp => dutyTok ER (sendCell c p) 0 0)
    ∗ (bigSep Finset.univ fun p : Cp => dutyTok ER (recvCell c p) 0 0))

/-- The tokens of the duties that device `c` pays. -/
def payToks (c : Dev nD) : sProp 𝕄 :=
  iprop((bigSep Finset.univ fun s : Fin 5 => dutyTok ER (barCell (peer s c)) 0 s)
    ∗ (bigSep Finset.univ fun p : Cp => dutyTok ER (sendCell c p) 0 0)
    ∗ (bigSep Finset.univ fun p : Cp => dutyTok ER (recvCell (peer p.1 c) p) 0 0))

/-- What every device has by stages may as well be had by the partners of the stages. -/
theorem redeal {J : Type} [Fintype J] (st : J → Fin 5) (Φ : Dev nD → J → sProp 𝕄) :
    (bigSep Finset.univ fun c => bigSep Finset.univ fun j => Φ c j)
      = bigSep Finset.univ fun c => bigSep Finset.univ fun j => Φ (peer (st j) c) j := by
  rw [bigSep_univ_comm, bigSep_univ_comm (fun c j => Φ (peer (st j) c) j)]
  exact bigSep_congr fun j _ => bigSep_univ_equiv (swap (st j)) (fun c => Φ c j)

theorem toks_dealt : (bigSep Finset.univ fun c : Dev nD => (ownToks c : sProp 𝕄)) = bigSep Finset.univ fun c : Dev nD => payToks c := by
  unfold ownToks payToks
  rw [bigSep_sep', bigSep_sep', bigSep_sep', bigSep_sep',
    redeal (fun s => s) (fun (c : Dev nD) (s : Fin 5) => (dutyTok ER (barCell c) 0 s : sProp 𝕄)),
    redeal (fun p : Cp => p.1) (fun (c : Dev nD) (p : Cp) => (dutyTok ER (recvCell c p) 0 0 : sProp 𝕄))]

variable (x : Dev nD → S1x256x256.Idx → Elt F .bf16)

/-! ## What the launch deals -/

/-- What is minted for device `c`. -/
def G (c : Dev nD) : sProp 𝕄 :=
  iprop((bigSep Finset.univ fun k : CI => roundState ER (Rd x) (kcell (c, k)) 0)
    ∗ (bigSep Finset.univ fun k : CI => iprop(atPos ER (kcell (c, k)) 0 ∅ 0 ∗ reached ER (kcell (c, k)) 0)) ∗ ownToks c)

/-- The cells' invariants and marks. -/
def records (K : Dev nD × CI → ℕ) : sProp 𝕄 :=
  iprop((bigSep Finset.univ fun ck : Dev nD × CI => cellInv ER (Rd x) (K ck) (kcell ck))
    ∗ (bigSep Finset.univ fun ck : Dev nD × CI => reached ER (kcell ck) 0))
instance records_persistent (K : Dev nD × CI → ℕ) : BI.Persistent (records x K) := by unfold records; infer_instance

/-- What a device alone has: the positions in its cells and the tokens it pays with. -/
def alone (c : Dev nD) : sProp 𝕄 :=
  iprop((bigSep Finset.univ fun k : CI => atPos ER (kcell (c, k)) 0 ∅ 0) ∗ payToks c)

/-- What device `c` has when the invariants are allocated. -/
def G' (c : Dev nD) : sProp 𝕄 := iprop(∃ K, records x K ∗ alone c)

/-- Minting every cell and token. -/
theorem fund_all : BI.own (ER (initOf allCells allToks)) ⊢ (|==> bigSep Finset.univ (G x) : sProp 𝕄) := by
  have hX (Φ : GSem nD τ sig → sProp 𝕄) : bigSep allCells Φ
      = bigSep Finset.univ fun c : Dev nD => bigSep Finset.univ fun k : CI => Φ (kcell (c, k)) := by
    unfold allCells; rw [bigSep_map, bigSep_univ_prod]; rfl
  have hT : bigSep allToks (fun t => (dutyTok ER t.1 t.2.1 t.2.2 : sProp 𝕄)) = bigSep Finset.univ fun c : Dev nD => ownToks c := by
    unfold allToks; rw [bigSep_map, bigSep_univ_prod]
    exact bigSep_congr fun c _ => by unfold ownToks; rw [bigSep_univ_sum, bigSep_univ_sum]; rfl
  iintro HX
  imod (Rounds.fund ER (Rd x) allCells allToks) $$ HX with ⟨Hst, Hr, Hat, Htok⟩
  imodintro
  ihave Hst' := (Entails.of_eq (hX fun g => roundState ER (Rd x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The kernel's own semaphores: those of the copies. -/
abbrev osem : Cp ⊕ Cp → SemLoc sig := fun p => csem (.inr p)

theorem ownSemFacts : Pipeline.OwnSemFacts cfg0.spec osem where
  isScoped := by decide +kernel
  inj := fun a b h => Sum.inr.inj (csem_injective h)
  disj := by decide +kernel

theorem unscoped_eq (c : Dev nD) : (unscopedSems0 c : sProp 𝕄) = semVal (barCell c) 0 := by
  unfold unscopedSems0; rw [bigSep_eq_bigSepL_of_eq [SemLoc.reg barS] (by decide) (by decide)]; rfl

theorem own_eq (c : Dev nD) :
    (Pipeline.ownSems0 (Ix := Unit) (Name := ℕ) (U := UU) (Lvl := ℕ) (Val := Elt F) (τ := τ) osem c : sProp 𝕄)
      = iprop((bigSep Finset.univ fun p : Cp => semVal (sendCell c p) 0) ∗ bigSep Finset.univ fun p : Cp => semVal (recvCell c p) 0) := by
  unfold Pipeline.ownSems0; rw [bigSep_univ_sum]; rfl

theorem sems_eq (c : Dev nD) :
    (bigSep Finset.univ fun k : CI => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_sum, unscoped_eq, bigSep_univ_of_subsingleton ()]; rfl

/-! ## The invariants are allocated -/

theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k => iprop(∃ κ : ℕ, cellInv ER (Rd x) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CI => semVal (kcell (c, k)) 0) ∗ bigSep Finset.univ fun k : CI => roundState ER (Rd x) (kcell (c, k)) 0)
      ⊢ (|={Set.univ}=> bigSep Finset.univ fun k => iprop(∃ κ : ℕ, cellInv ER (Rd x) κ (kcell (c, k))) : sProp 𝕄) from by
        rw [← bigSep_sep']
        exact (bigSep_mono fun k _ => (Rounds.body_intro ER (Rd x) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What persists may be had with every part. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd x) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' x) := by
  rw [bigSep_sep', bigSep_sep', ← bigSep_univ_prod (fun ck : Dev nD × CI => iprop(∃ κ : ℕ, cellInv ER (Rd x) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_dealt]
  iintro ⟨HI, ⟨Hat, #HR⟩, Htok⟩
  ihave HK := (BI.bigSep_exists_pi Finset.univ (fun (ck : Dev nD × CI) (κ : ℕ) => (cellInv ER (Rd x) κ (kcell ck) : sProp 𝕄))) $$ HI
  icases HK with ⟨%K, #HI⟩
  iapply (with_persistent (R := records x K) (Φ := alone) (Ψ := G' x) fun c _ => by
    unfold G'
    iintro H
    iexists K; iexact H)
  isplitr
  · unfold records; isplitl; · iexact HI
    iexact HR
  unfold alone
  rw [bigSep_sep']
  isplitl [Hat]; · iexact Hat
  iexact Htok

/-- The step all devices take together before the run. -/
theorem glob :
    (bigSep Finset.univ fun c => iprop(Pipeline.ownSems0 (Ix := Unit) (Name := ℕ) (U := UU) (Lvl := ℕ) (Val := Elt F) (τ := τ) osem c ∗ unscopedSems0 c ∗ G x c) : sProp 𝕄)
      ⊢ |={Set.univ}=> bigSep Finset.univ (G' x) :=
  ((bigSep_mono fun c _ => core_alloc x c).trans (bigSep_fupd _ _)).trans (BI.fupd_mono (regroup x))

/-! ## The credit at launch -/

/-- The devices together owe a device's cell what its one partner of the stage owes it. -/
theorem sum_partner (s : Fin 5) (g : Dev nD → GSem nD τ sig) (hg : Function.Injective g) (n : ℕ) (c : Dev nD) :
    ∑ d : Dev nD, (tallyAt (g (peer s d)) () n : CellTallies nD τ sig Unit) (g c) () = n := by
  rw [Finset.sum_eq_single (peer s c)]
  · rw [peer_peer, tallyAt_apply, if_pos ⟨rfl, rfl⟩]
  · intro d _ hd
    rw [tallyAt_apply, if_neg fun h => hd ?_]
    rw [hg h.1, peer_peer]
  · exact fun h => absurd (Finset.mem_univ _) h

theorem bar_injective : Function.Injective barCell := fun _ _ h => congrArg (fun g : GSem nD τ sig => g.1.1) h
theorem recv_injective (p : Cp) : Function.Injective fun c => recvCell c p :=
  fun _ _ h => congrArg (fun g : GSem nD τ sig => g.1.1) h

theorem O₀_apply (d : Dev nD) (g : GSem nD τ sig) :
    O₀ d g () = (∑ p : Cp, (tallyAt (recvCell (peer p.1 d) p) () N : CellTallies nD τ sig Unit) g ())
      + ∑ s : Fin 5, (tallyAt (barCell (peer s d)) () 1 : CellTallies nD τ sig Unit) g () := by
  unfold O₀ Obar Orem
  rw [Pi.add_apply, Finsupp.add_apply, sum_apply, sum_apply, Finset.filter_true_of_mem fun _ _ => Nat.zero_le _,
    Finset.filter_true_of_mem fun _ _ => Nat.zero_le _]

theorem owed_bar (c : Dev nD) : ∑ d : Dev nD, O₀ d (barCell c) () = 5 := by
  rw [Finset.sum_congr rfl fun d _ => O₀_apply d (barCell c), Finset.sum_add_distrib, Finset.sum_comm,
    Finset.sum_eq_zero, zero_add, Finset.sum_comm, Finset.sum_congr rfl fun s _ => sum_partner s barCell bar_injective 1 c]
  · rfl
  · intro p _
    refine Finset.sum_eq_zero fun d _ => ?_
    rw [tallyAt_apply, if_neg fun h => ?_]
    exact absurd (congrArg Prod.snd h.1) (fun h => by cases h)

theorem owed_recv (c : Dev nD) (p : Cp) : ∑ d : Dev nD, O₀ d (recvCell c p) () = N := by
  rw [Finset.sum_congr rfl fun d _ => O₀_apply d (recvCell c p), Finset.sum_add_distrib, Finset.sum_comm,
    Finset.sum_eq_single p, sum_partner p.1 (fun c => recvCell c p) (recv_injective p) N c, Finset.sum_eq_zero, add_zero]
  · intro d _
    refine Finset.sum_eq_zero fun s _ => ?_
    rw [tallyAt_apply, if_neg fun h => ?_]
    exact absurd (congrArg Prod.snd h.1) (fun h => by cases h)
  · intro q _ hq
    refine Finset.sum_eq_zero fun d _ => ?_
    rw [tallyAt_apply, if_neg fun h => hq ?_]
    have h := csem_injective (a₁ := .inr (.inr p)) (a₂ := .inr (.inr q)) (congrArg Prod.snd h.1)
    exact (Sum.inr.inj (Sum.inr.inj h)).symm
  · exact fun h => absurd (Finset.mem_univ _) h

/-- The credit of a cell at launch, from what all devices owe it. -/
theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The cells of a device that have credit at launch. -/
def dueCell : Unit ⊕ Cp → CI
  | .inl u => .inl u
  | .inr p => .inr (.inr p)
abbrev due (t : Unit ⊕ Cp) : SemLoc sig := csem (dueCell t)

theorem due_injective : Function.Injective due := by
  intro a b h
  have h := csem_injective h
  rcases a with a | a <;> rcases b with b | b
  · rfl
  · cases h
  · cases h
  · exact congrArg Sum.inr (Sum.inr.inj (Sum.inr.inj h))

theorem creds (c : Dev nD) :
    (Pipeline.launchCred O₀ c : sProp 𝕄)
      ⊢ iprop(cred (tallyAt (barCell c) () 5) ∗ bigSep Finset.univ fun p : Cp => cred (tallyAt (recvCell c p) () N)) := by
  unfold Pipeline.launchCred
  refine (bigSep_subset (Finset.subset_univ (Finset.univ.map ⟨due, due_injective⟩))).trans
    (show (_ : sProp 𝕄) ⊢ _ from Entails.of_eq ?_)
  rw [bigSep_map, bigSep_univ_sum, bigSep_univ_of_subsingleton ()]
  exact congrArg₂ (fun a b : sProp 𝕄 => iprop(a ∗ b)) (congrArg cred (launch_cell (barCell c) 5 (owed_bar c)))
    (bigSep_congr fun p _ => congrArg cred (launch_cell (recvCell c p) N (owed_recv c p)))

end Cert.KernelIdeal.Run
-- ==== Proof.RunKernelIdeal.Launch.lean ====
/- The run of the program from any memory: it ends, every device's `x` is unchanged, its result holds what the
   five stages compute, and every counter is at zero. -/
module

public import proofs.«01_k».proof.Proof.RunKernelIdeal.Cells
public import Idealize.ShloMosaic.Lib.Ring.FamCut
public import Idealize.ShloMosaic.Lib.Pipeline.CollectiveSegs
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, every counter at zero. -/
def s₀ : MemSt nD τ sig (Elt F) := ⟨m, fun _ => 0, ρ⟩

/-- Device `d`'s block of `x`. -/
def xs (d : Dev nD) : S1x256x256.Idx → Elt F .bf16 :=
  (win0_0.blk (0 : Fin 1)).view.read (Elt F) ((s₀ m ρ).mem ((d : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` has before its body, besides its scratch buffers. -/
def start (c : Dev nD) : sProp 𝕄 :=
  iprop((∃ K, env (xs m ρ) K ∗ alone c) ∗ cred (tallyAt (barCell c) () 5)
    ∗ bigSep Finset.univ fun p : Cp => cred (tallyAt (recvCell c p) () N))

/-- The scratch buffers at any contents. -/
abbrev scratch (c : Dev nD) : sProp 𝕄 :=
  (Pipeline.scopedRest (Ix := Unit) (Name := ℕ) (U := UU) (Lvl := ℕ) (Val := Elt F) cfg0.spec c : sProp 𝕄)

/-- The copies' counters at zero. -/
abbrev zeros (c : Dev nD) : sProp 𝕄 :=
  (Pipeline.ownSems0 (Ix := Unit) (Name := ℕ) (U := UU) (Lvl := ℕ) (Val := Elt F) (τ := τ) osem c : sProp 𝕄)

/-- The proof data of the launch's one point: the body's start and end, and the results. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outAt (xs m ρ) c
  Φ t := match t with
    | ⟨0, _⟩ => iprop(start m ρ c ∗ scratch (F := F) c)
    | ⟨_ + 1, _⟩ => iprop(unscopedSems0 c ∗ zeros (F := F) c ∗ scratch (F := F) c)
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- A whole buffer's ownership, read back as its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The scratch buffers in pieces -/

/-- The elements of the landing slots, of the accumulator's chunks. -/
abbrev slotSet (c : Dev nD) (p : Cp) : Finset (Idx ((c : Thread nD τ).loc cc0_scratch1)) := (cV p.1 p.2).view.set
abbrev chunkSet (c : Dev nD) (k : Fin 4) : Finset (Idx ((c : Thread nD τ).loc cc0_scratch0)) := (aV k).view.set

theorem slotSet_disjoint (c : Dev nD) (p q : Cp) (h : p ≠ q) : Disjoint (slotSet c p) (slotSet c q) := by
  unfold slotSet
  rw [View.set_reshape, View.set_reshape]
  by_cases h1 : p.1 = q.1
  · refine View.disjoint_slice_of_sep _ _ _ (1 : Fin 4) rfl rfl ?_
    show p.2.val + 1 ≤ q.2.val ∨ q.2.val + 1 ≤ p.2.val
    have : p.2.val ≠ q.2.val := fun h2 => h (Prod.ext h1 (Fin.ext h2))
    omega
  · refine View.disjoint_slice_of_sep _ _ _ (0 : Fin 4) rfl rfl ?_
    show p.1.val + 1 ≤ q.1.val ∨ q.1.val + 1 ≤ p.1.val
    have : p.1.val ≠ q.1.val := fun h2 => h1 (Fin.ext h2)
    omega

theorem chunkSet_disjoint (c : Dev nD) (k l : Fin 4) (h : k ≠ l) : Disjoint (chunkSet c k) (chunkSet c l) := by
  unfold chunkSet
  rw [View.set_reshape, View.set_reshape]
  refine View.disjoint_slice_of_sep _ _ _ (0 : Fin 3) rfl rfl ?_
  show k.val + 1 ≤ l.val ∨ l.val + 1 ≤ k.val
  have : k.val ≠ l.val := fun h2 => h (Fin.ext h2)
  omega

/-- What the pieces leave of the scratch buffers. -/
def leftover (c : Dev nD) : sProp 𝕄 :=
  iprop((∃ f, ((c : Thread nD τ).loc cc0_scratch0) ↦[Ring.restOf (chunkSet c)]{fullShare} f)
    ∗ ∃ f, ((c : Thread nD τ).loc cc0_scratch1) ↦[Ring.restOf (slotSet c)]{fullShare} f)

theorem scratch_split (c : Dev nD) :
    (scratch (F := F) c : sProp 𝕄) ⊢ iprop((bigSep Finset.univ fun k : Fin 4 => anyChunk c k)
      ∗ (bigSep Finset.univ fun p : Cp => slot c p) ∗ leftover c) := by
  unfold scratch leftover
  rw [scopedRest0_eq]
  iintro ⟨Ha, Hc⟩
  ihave Ha := (Ring.fam_split_ex (chunkSet c) (chunkSet_disjoint c)) $$ Ha
  ihave Hc := (Ring.fam_split_ex (slotSet c) (slotSet_disjoint c)) $$ Hc
  icases Ha with ⟨Ha, Ha'⟩
  icases Hc with ⟨Hc, Hc'⟩
  isplitl [Ha]; · iexact Ha
  isplitl [Hc]; · iexact Hc
  isplitl [Ha']; · iexact Ha'
  iexact Hc'

theorem scratch_join (c : Dev nD) :
    iprop((bigSep Finset.univ fun k : Fin 4 => anyChunk c k)
      ∗ (bigSep Finset.univ fun p : Cp => slot c p) ∗ leftover c) ⊢ (scratch (F := F) c : sProp 𝕄) := by
  unfold scratch leftover
  rw [scopedRest0_eq]
  iintro ⟨Ha, Hc, ⟨%f, Ha'⟩, ⟨%g, Hc'⟩⟩
  isplitl [Ha Ha']
  · iapply (Ring.fam_join (chunkSet c) (chunkSet_disjoint c) f)
    isplitl [Ha]; · iexact Ha
    iexists f; iexact Ha'
  · iapply (Ring.fam_join (slotSet c) (slotSet_disjoint c) g)
    isplitl [Hc]; · iexact Hc
    iexists g; iexact Hc'

/-! ## The body's obligation -/

/-- What a device has alone and its credits, cell by cell as the body uses them. -/
theorem idle_intro (c : Dev nD) :
    iprop(alone c ∗ bigSep Finset.univ fun p : Cp => cred (tallyAt (recvCell c p) () N))
      ⊢ (iprop(atPos ER (barCell c) 0 ∅ 0 ∗ (bigSep Finset.univ fun s : Fin 5 => dutyTok ER (barCell (peer s c)) 0 s)
        ∗ bigSep Finset.univ fun p : Cp => Idle c p) : sProp 𝕄) := by
  unfold alone payToks Idle
  rw [show (bigSep Finset.univ fun k : CI => (atPos ER (kcell (c, k)) 0 ∅ 0 : sProp 𝕄))
      = iprop(atPos ER (barCell c) 0 ∅ 0 ∗ (bigSep Finset.univ fun p : Cp => atPos ER (sendCell c p) 0 ∅ 0)
        ∗ bigSep Finset.univ fun p : Cp => atPos ER (recvCell c p) 0 ∅ 0) from by
      rw [bigSep_univ_sum, bigSep_univ_sum, bigSep_univ_of_subsingleton ()]; rfl,
    bigSep_sep', bigSep_sep', bigSep_sep', bigSep_sep']
  iintro ⟨⟨⟨HaB, HaS, HaR⟩, HtB, HtS, HtR⟩, Hc⟩
  isplitl [HaB]; · iexact HaB
  isplitl [HtB]; · iexact HtB
  isplitl [HaS]; · iexact HaS
  isplitl [HaR]; · iexact HaR
  isplitl [HtS]; · iexact HtS
  isplitl [HtR]; · iexact HtR
  iexact Hc

/-- What is done is all counters at zero and the landing slots. -/
theorem done_elim (c : Dev nD) :
    (bigSep Finset.univ fun p : Cp => Done (F := F) c p)
      ⊢ iprop(zeros (F := F) c ∗ bigSep Finset.univ fun p : Cp => slot c p) := by
  unfold Done zeros
  rw [own_eq, bigSep_sep', bigSep_sep']
  iintro ⟨H1, H2, H3⟩
  isplitl [H1 H2]
  · isplitl [H1]; · iexact H1
    iexact H2
  iexact H3

/-- A whole buffer at the given contents, in the form of the launch. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device starts with, with the staging buffers as the launch leaves them. -/
def bodyPre (c : Dev nD) : sProp 𝕄 :=
  iprop((start m ρ c ∗ scratch (F := F) c) ∗ (dats m ρ 0 c).owesAt () t₀.castSucc
    ∗ (∃ d, held c cc0_stg0_0 ((dats m ρ 0 c).before (0 : Fin 2) t₀ d))
    ∗ (∃ d, held c cc0_stg1_0 ((dats m ρ 0 c).before (1 : Fin 2) t₀ d)))

def bodyPost (c : Dev nD) : sProp 𝕄 :=
  iprop((unscopedSems0 c ∗ zeros (F := F) c ∗ scratch (F := F) c) ∗ (dats m ρ 0 c).owesAt () t₀.succ
    ∗ held c cc0_stg0_0 (xs m ρ c) ∗ held c cc0_stg1_0 (outAt (xs m ρ) c))

theorem body_start (c : Dev nD) :
    bodyPre m ρ c ⊢ iprop((∃ K f, bodyIn (xs m ρ) K c f) ∗ leftover c) := by
  unfold bodyPre start Dat.owesAt Pipeline.owesWithin bodyIn owesE
  iintro ⟨⟨⟨⟨%K, #He, Hal⟩, HcB, HcR⟩, Hscr⟩, ⟨%W, %hW, HO⟩, ⟨%d0, %g0, %hg0, Hx⟩, ⟨%d1, %g1, %hg1, Ho⟩⟩
  have hx : g0 = xs m ρ c := by rw [hg0]; unfold Dat.before; rw [if_pos (fetch_0 t₀)]; rfl
  subst hx
  ihave Hscr := (scratch_split (F := F) c) $$ Hscr
  icases Hscr with ⟨HA, HS, HL⟩
  ihave Hal := (idle_intro (F := F) c) $$ [Hal HcR]
  · isplitl [Hal]; · iexact Hal
    iexact HcR
  icases Hal with ⟨Hat, HT, HI⟩
  isplitr [HL]
  · iexists K, g1
    isplitr; · iexact He
    isplitl [Hat]; · iexact Hat
    isplitl [HcB]; · iexact HcB
    isplitl [HO]; · iexists W; iexact HO
    isplitl [HT]; · iexact HT
    isplitl [HI]; · iexact HI
    isplitl [HS]; · iexact HS
    isplitl [HA]; · iexact HA
    isplitl [Hx]; · iexact Hx
    iexact Ho
  iexact HL

theorem body_end (c : Dev nD) :
    iprop(bodyOut (xs m ρ) c ∗ leftover c) ⊢ bodyPost m ρ c := by
  unfold bodyOut bodyPost Dat.owesAt Pipeline.owesWithin owesE
  iintro ⟨⟨⟨%W, HO⟩, HzB, HD, HA, Hx, Ho⟩, HL⟩
  ihave HD := (done_elim (F := F) c) $$ HD
  icases HD with ⟨Hz, HS⟩
  isplitl [HzB Hz HS HA HL]
  · isplitl [HzB]; · rw [unscoped_eq]; iexact HzB
    isplitl [Hz]; · iexact Hz
    iapply (scratch_join (F := F) c)
    isplitl [HA]; · iexact HA
    isplitl [HS]; · iexact HS
    iexact HL
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The printed body takes a device from its start to its end. -/
theorem body_wp (c : Dev nD) :
    bodyPre m ρ c ⊢ wp frame (wpE (defs₀ (F := F)) 𝒱₀ (c : Thread nD τ) none) Set.univ
      (cc0_body xM (Memref.isWhole_whole _) oM (Memref.isWhole_whole _) aM (Memref.isWhole_whole _)
        cM (Memref.isWhole_whole _) cc0_scratch2 cc0_scratch3) (fun _ => bodyPost m ρ c) := by
  rw [body_eq]
  unfold bodyP
  rw [wp_deviceId]
  refine (body_start m ρ c).trans ?_
  iintro ⟨⟨%K, %f, H⟩, HL⟩
  iapply (wp_wand frame (wpE (defs₀ (F := F)) 𝒱₀ (c : Thread nD τ) none) Set.univ (p := devP c)
    (Q := fun _ => bodyOut (xs m ρ) c)) $$ [H]
  · iapply (sound_body (xs m ρ) K c f); iexact H
  iintro %a H
  iapply (body_end m ρ c)
  isplitl [H]; · iexact H
  iexact HL

set_option maxRecDepth 65536 in
/-- The launch's obligation for the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_wp m ρ c

/-! ## The launch -/

theorem share_eq (c : Dev nD) (w : Fin cfg0.W) : (dats m ρ 0 c).share w = fullShare := by unfold Dat.share; split <;> rfl

/-- What the launch mints. -/
def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m ρ) c)
      ⊢ |={Set.univ}=> iprop(start m ρ c ∗ emp) := by
  unfold start G' env records
  iintro ⟨-, #Hlev, Hcr, -, ⟨%K, ⟨#HI, #HR⟩, Hal⟩⟩
  ihave Hc := (creds (F := F) c) $$ Hcr
  icases Hc with ⟨H1, HN⟩
  imodintro
  isplitl
  · isplitl [Hal]
    · iexists K
      isplitr
      · isplitr; · iexact HI
        isplitr; · iexact HR
        iexact Hlev
      iexact Hal
    isplitl [H1]; · iexact H1
    iexact HN
  · iempintro

theorem phi_start (c : Dev nD) :
    iprop(start m ρ c ∗ Pipeline.prefHeld Pipeline.Prefetch.none c (fun _ => fullShare.right) (fun k => k.elim0) ∗ scratch (F := F) c)
      ⊢ (dats m ρ 0 c).Φ 0 := by
  rw [show (dats m ρ 0 c).Φ 0 = iprop(start m ρ c ∗ scratch (F := F) c) from rfl]
  iintro ⟨Hs, -, Hr⟩
  isplitl [Hs]; · iexact Hs
  iexact Hr

theorem phi_end (c : Dev nD) :
    (dats m ρ 0 c).Φ (Fin.last cfg0.N) ⊢ iprop(unscopedSems0 c ∗ zeros (F := F) c ∗ scratch (F := F) c) := by
  rw [show (dats m ρ 0 c).Φ (Fin.last cfg0.N) = iprop(unscopedSems0 c ∗ zeros (F := F) c ∗ scratch (F := F) c) from rfl]

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair run ends with the windows' arrays as computed and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m ρ)) (G' := G' (xs m ρ)) (u₀ := u₀)
    (hu₀ := by
      unfold u₀
      iintro Hu
      ihave H := (ownU_pair _ _) $$ Hu
      icases H with ⟨HP, HX⟩
      imod (fund_all (xs m ρ)) $$ HX with HG
      imodintro
      isplitl [HP] <;> iassumption)
    (hglob := glob (xs m ρ))
    (hA := fun _ _ => rfl) (hpf := fun _ k => k.elim0)
    (X := start m ρ) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Run
-- ==== Proof.RunKernelIdeal.Result.lean ====
/- The run read at the program's own arrays: `x` is unchanged and the result is the one that the stages
   compute from all devices' `x`. -/
module

public import proofs.«01_k».proof.Proof.RunKernelIdeal.Launch

@[expose] public section

noncomputable section

namespace Cert.KernelIdeal.Run

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- What the devices' `x` arrays hold at launch. -/
abbrev args (d : Dev nD) : S1x256x256.Idx → Elt F .bf16 := m ((d : Thread nD τ).loc main_arg0)

/-- The block that the body reads is the whole `x` array. -/
theorem xs_eq : xs m ρ = args m :=
  funext fun d => Memref.read_access_unit_zero (Elt F) main_arg0
    (show (fun a => (win0_0.index (0 : Fin 1)) a * main_arg0.ty.shape.size a) = fun _ => 0 from
      funext fun a => by fin_cases a <;> decide)
    (fun a => by fin_cases a <;> decide) _

/-- The result array after the run holds what the body computed. -/
theorem finalA_o (c : Dev nD) : finalA m ρ c (1 : Fin 2) = outAt (args m) c := by
  have h : (win0_1.blk (0 : Fin 1)).view.read (Elt F) (finalA m ρ c (1 : Fin 2)) = outAt (xs m ρ) c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  rw [xs_eq] at h
  exact (Memref.read_access_unit_zero (Elt F) main_v1
    (show (fun a => (win0_1.index (0 : Fin 1)) a * main_v1.ty.shape.size a) = fun _ => 0 from
      funext fun a => by fin_cases a <;> decide)
    (fun a => by fin_cases a <;> decide) _).symm.trans h

/-- From any memory with every counter at zero, every fair run ends with every device's result at what the
    stages compute, every device's `x` as it was, and every counter at zero. -/
theorem run_result : θ_run defs (onTc (τ := τ) (main (F := F))) ⟨m, fun _ => 0, ρ⟩ fun r =>
    (∀ c : Dev nD, r.2.mem ((c.tc : Thread nD τ).loc main_v1) = outAt (args m) c
      ∧ r.2.mem ((c.tc : Thread nD τ).loc main_arg0) = m ((c.tc : Thread nD τ).loc main_arg0))
    ∧ r.2.sem = fun _ => 0 :=
  (θ_run defs _ _).mono
    (fun _ h => ⟨fun c => ⟨(h.1 c (1 : Fin 2)).trans (finalA_o m ρ c), (h.1 c (0 : Fin 2)).trans (finalA_x m ρ c)⟩, h.2⟩)
    (run_main m ρ)

end Cert.KernelIdeal.Run
-- ==== Proof.Value.Reference.lean ====
/- The run of the reference: it sums the thirty-two blocks in float32, rounds to bfloat16 and widens again. -/
module

public import proofs.«01_k».proof.Proof.Gen.ReferenceIdeal
public import Idealize.ShloMosaic.Lib.StableHlo.Run
public import Idealize.ShloMosaic.PureOps.Ideal
public import Idealize.ShloMosaic.Lib.IdealHost
public import Idealize.ShloMosaic.Lib.Pointwise.Reduce
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The reference's result of the whole array. -/
def total (x : FVec F S32x256x256 .bf16) : FVec F S256x256 .f32 :=
  extf .f32 (truncf .bf16 (Host.reduceAdd (extf .f32 x bitsLt_bf16_f32) (constant S_ .f32 0x00000000#32)
    reducesTo_S32x256x256_S256x256_d0 h_S_) bitsLt_bf16_f32) bitsLt_bf16_f32

/-- The five operations, in order. -/
abbrev ops : List (HloOp τ sig (Elt F)) :=
  [ unary main_arg0 main_v0 (extf .f32 · bitsLt_bf16_f32),
    nullary main_cst (constant S_ .f32 0x00000000#32),
    binary main_v0 main_cst main_v1 (fun x v => Host.reduceAdd x v reducesTo_S32x256x256_S256x256_d0 h_S_),
    unary main_v1 main_v2 (truncf .bf16 · bitsLt_bf16_f32),
    unary main_v2 main_v3 (extf .f32 · bitsLt_bf16_f32) ]

theorem main_eq (c : Dev nD) : main (F := F) c = seq ops := rfl

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., binary_bufs_sub .., unary_bufs_sub .., unary_bufs_sub ..⟩

/-- From any memory, every fair run ends with the result at `total` of the argument, the argument unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = total (m ((c.tc : Thread nD τ).loc main_arg0))
      ∧ r.2.mem ((c.tc : Thread nD τ).loc main_arg0) = m ((c.tc : Thread nD τ).loc main_arg0) :=
  (θ_run defs _ _).mono
    (fun _ h c => ⟨(h c main_v3).trans (by after_results; rfl), (h c main_arg0).trans (by after_results)⟩)
    (run_seq no_scoped_refs no_scoped_sems defs main (fun _ => ops) main_eq (fun _ => ops_sub) m ρ)

/-- Over the extended reals the reference's result at a row and a column is the sum of the blocks' elements. -/
theorem total_apply (x : FVec Ideal S32x256x256 .bf16) (i : S256x256.Idx) :
    total x i = ∑ k : Fin 32, (x (ValueIdx.ix3 k (i 0) (i 1)) : EReal) := by
  show Host.reduceAdd (extf .f32 x bitsLt_bf16_f32) (constant S_ .f32 0x00000000#32 : FVec Ideal S_ .f32)
    reducesTo_S32x256x256_S256x256_d0 h_S_ i = _
  rw [ValueIdx.hostReduceAdd_apply]
  refine (Ideal.hostReduceAdd_r3_a0 _ _ _ i).trans ?_
  rw [show (constant S_ .f32 0x00000000#32 : FVec Ideal S_ .f32) (Shape.Idx.first h_S_) = (0 : EReal) from
    show Ideal.ofBits .f32 0x00000000#32 = 0 by simp [Ideal.ofBits, Ideal.ieee], zero_add]
  rfl

end Cert.ReferenceIdeal.Run
-- ==== Proof.Value.Butterfly.lean ====
/- Five exchanges over thirty-two devices add up everything: where each device of a stage adds its partner's
   value to its own, and the partners' masks are 1, 3, 4, 8 and 16, every device ends with the sum over all
   devices of what they started with. -/
module

public import Mathlib.Algebra.BigOperators.Group.Finset.Basic
public import Mathlib.Data.Fintype.Basic
public import Mathlib.Data.Fin.VecNotation

@[expose] public section

namespace Cert.Butterfly

/-- The index `d` with the bits of `a` flipped. -/
def flip (a : ℕ) (d : Fin 32) : Fin 32 := ⟨(d.val ^^^ a) % 32, Nat.mod_lt _ (by decide)⟩

/-- The five masks, in the order of the stages. -/
def masks : Fin 5 → ℕ := ![1, 3, 4, 8, 16]

/-- The distances of the devices whose values a device has summed when `s` stages are done. -/
def span : ℕ → Finset (Fin 32)
  | 0 => {0}
  | s + 1 => span s ∪ (span s).image (flip (masks (Fin.ofNat 5 s)))

theorem flip_zero : ∀ d : Fin 32, flip 0 d = d := by decide
theorem flip_comp : ∀ (s : Fin 5) (a d : Fin 32), flip a.val (flip (masks s) d) = flip (flip (masks s) a).val d := by
  decide +kernel
theorem flip_inj : ∀ (s : Fin 5) (a b : Fin 32), flip (masks s) a = flip (masks s) b → a = b := by
  decide +kernel
theorem flip_back : ∀ a d : Fin 32, flip (flip a.val d).val d = a := by decide +kernel
/-- What the partner has summed before a stage, the device has not. -/
theorem span_disjoint : ∀ s : Fin 5, Disjoint (span s.val) ((span s.val).image (flip (masks s))) := by
  decide +kernel
/-- After five stages nothing is missing. -/
theorem span_all : span 5 = Finset.univ := by decide +kernel

theorem span_succ (s : Fin 5) : span (s.val + 1) = span s.val ∪ (span s.val).image (flip (masks s)) := by
  rw [span, show Fin.ofNat 5 s.val = s from Fin.ofNat_val_eq_self s]

variable {M : Type} [AddCommMonoid M] (W : ℕ → Fin 32 → M)

/-- After `n` stages a device holds the sum over the devices at the distances of `span n`. -/
theorem partial_sum (hW : ∀ (s : Fin 5) (d : Fin 32), W (s.val + 1) d = W s.val d + W s.val (flip (masks s) d)) :
    ∀ n : ℕ, n ≤ 5 → ∀ d : Fin 32, W n d = ∑ a ∈ span n, W 0 (flip a.val d)
  | 0, _, d => by
    rw [span, Finset.sum_singleton]
    exact congrArg (W 0) (flip_zero d).symm
  | n + 1, hn, d => by
    have ih := partial_sum hW n (by omega)
    have hs := hW ⟨n, hn⟩ d
    dsimp only at hs
    rw [hs, ih, ih, span_succ ⟨n, hn⟩, Finset.sum_union (span_disjoint ⟨n, hn⟩),
      Finset.sum_image fun a _ b _ h => flip_inj ⟨n, hn⟩ a b h]
    exact congrArg _ (Finset.sum_congr rfl fun a _ => congrArg (W 0) (flip_comp ⟨n, hn⟩ a d))

/-- After all five stages every device holds the sum over all devices. -/
theorem total_sum (hW : ∀ (s : Fin 5) (d : Fin 32), W (s.val + 1) d = W s.val d + W s.val (flip (masks s) d))
    (d : Fin 32) : W 5 d = ∑ e, W 0 e := by
  rw [partial_sum W hW 5 le_rfl d, span_all]
  exact Equiv.sum_comp (⟨fun a => flip a.val d, fun a => flip a.val d, fun a => flip_back a d,
    fun a => flip_back a d⟩ : Fin 32 ≃ Fin 32) (W 0)

end Cert.Butterfly
-- ==== Proof.Value.Stages.lean ====
/- The kernel's result over the extended reals: the rows that every device ends with are the sums of all
   devices' rows. -/
module

public import proofs.«01_k».proof.Proof.RunKernelIdeal.Walk
public import proofs.«01_k».proof.Proof.Value.Butterfly
public import Idealize.ShloMosaic.PureOps.Ideal
public import Idealize.ShloMosaic.Lib.ValueLayout

@[expose] public section

noncomputable section

namespace Cert.KernelIdeal.Run

open Cert.KernelIdeal Cert.KernelIdeal.Gen
open Idealize.ShloMosaic

variable (x : Dev nD → FVec Ideal S1x256x256 .bf16)

/-- Before the first stage chunk `k` is rows `64 k … 64 k + 63` of the device's block. -/
theorem V_zero_apply (k : Fin 4) (d : Dev nD) (r : Fin 64) (l : Fin 256) :
    V (F := Ideal) x 0 k d (ValueIdx.ix2 r l)
      = x d (ValueIdx.ix3 0 ⟨64 * k.val + r.val, by omega⟩ l) := by
  refine (ValueIdx.shapeCast_1ab_ab_apply _ _ r l).trans (congrArg (x d) ?_)
  funext a
  apply Fin.ext
  match a with
  | ⟨0, _⟩ => rfl
  | ⟨1, _⟩ => show 64 * k.val + 1 * r.val = 64 * k.val + r.val; omega
  | ⟨2, _⟩ => show 0 + 1 * l.val = l.val; omega

/-- After the five stages every device holds, at a row of a chunk, the sum over all devices. -/
theorem V_five_apply (k : Fin 4) (c : Dev nD) (y : S64x256.Idx) :
    V (F := Ideal) x 5 k c y = ∑ d : Fin 32, (V (F := Ideal) x 0 k d y : EReal) :=
  Butterfly.total_sum (fun s d => (V (F := Ideal) x s k d y : EReal))
    (fun s d => congrFun (V_succ (F := Ideal) x s k d) y) c

/-- The result of every device at a row and a column is the sum of the devices' blocks there. -/
theorem outAt_apply (c : Dev nD) (i : S256x256.Idx) :
    outAt (F := Ideal) x c i = ∑ d : Fin 32, (x d (ValueIdx.ix3 0 (i 0) (i 1)) : EReal) := by
  refine (V_five_apply x (rowK i) c (rowY i)).trans (Finset.sum_congr rfl fun d _ => ?_)
  have hy : rowY i = ValueIdx.ix2 ⟨(i 0).val % 64, Nat.mod_lt _ (by decide)⟩ (i 1) := by
    funext a
    match a with
    | ⟨0, _⟩ => rfl
    | ⟨1, _⟩ => rfl
  rw [hy]
  refine (V_zero_apply x (rowK i) d _ _).trans (congrArg (x d) ?_)
  funext a
  apply Fin.ext
  match a with
  | ⟨0, _⟩ => rfl
  | ⟨1, _⟩ => show 64 * ((i 0).val / 64) + (i 0).val % 64 = (i 0).val; omega
  | ⟨2, _⟩ => rfl

end Cert.KernelIdeal.Run
-- ==== Proof.lean ====
/- The certificate's theorem: the frames of the kernel, of its idealization and of the reference from their
   runs, and the equality of the kernel's and the reference's results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RunKernel.Result
public import proofs.«01_k».proof.Proof.RunKernelIdeal.Result
public import proofs.«01_k».proof.Proof.Value.Reference
public import proofs.«01_k».proof.Proof.Value.Stages

@[expose] public section

noncomputable section

namespace Cert.Proof

open Idealize.ShloMosaic Idealize.SL.Sem

/-- The kernel runs, leaves its argument as it was and its counters at zero. -/
theorem frame_kernel : Cert.quiescent_Kernel := fun m ρ _ =>
  (θ_run Cert.Kernel.defs _ _).mono (fun _ h => ⟨fun c => (h.1 c).2, h.2⟩)
    (Cert.Kernel.Run.run_result (F := Bits) m ρ)

/-- So does its idealization. -/
theorem frame_ideal : Cert.quiescent_KernelIdeal := fun m ρ _ =>
  (θ_run Cert.KernelIdeal.defs _ _).mono (fun _ h => ⟨fun c => (h.1 c).2, h.2⟩)
    (Cert.KernelIdeal.Run.run_result (F := Ideal) m ρ)

/-- So does the reference. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Run.run_result (F := Ideal) m ρ)

/-- Device `d`'s block of the whole array is its `d`-th slab. -/
theorem block_apply (X : FVec Ideal Cert.ReferenceIdeal.S32x256x256 .bf16) (d : Fin 32) (r l : Fin 256) :
    (Layout.block ⟨3, ![1, 256, 256]⟩ ⟨3, ![32, 256, 256]⟩ 0 32 d X) (ValueIdx.ix3 0 r l)
      = X (ValueIdx.ix3 d r l) := by
  rw [Layout.block_apply]
  refine congrArg X (funext fun a => Fin.ext ?_)
  match a with
  | ⟨0, _⟩ => show d.val * 1 + 0 = d.val; omega
  | ⟨1, _⟩ => rfl
  | ⟨2, _⟩ => rfl

/-- Where the devices hold the slabs of a whole array, each device's result is the reference's of that array. -/
theorem out_eq_total (X : FVec Ideal Cert.ReferenceIdeal.S32x256x256 .bf16)
    (x : Dev Cert.KernelIdeal.nD → FVec Ideal Cert.KernelIdeal.S1x256x256 .bf16)
    (hx : ∀ d, x d = Layout.block ⟨3, ![1, 256, 256]⟩ ⟨3, ![32, 256, 256]⟩ 0 32 d X) (c : Dev Cert.KernelIdeal.nD) :
    Cert.KernelIdeal.Run.outAt (F := Ideal) x c = Cert.ReferenceIdeal.Run.total (F := Ideal) X := by
  funext i
  refine (Cert.KernelIdeal.Run.outAt_apply x c i).trans
    (Eq.trans (Finset.sum_congr rfl fun d _ => ?_) (Cert.ReferenceIdeal.Run.total_apply X i).symm)
  rw [hx d]
  exact block_apply X d (i 0) (i 1)

/-- Over the extended reals every device's result is the reference's. -/
theorem algebraic : Cert.algebraic_KernelIdeal_ReferenceIdeal := by
  intro m ρ m' ρ' _ hagree
  refine ⟨Cert.ReferenceIdeal.Run.total (F := Ideal)
    (m' (((0 : Dev Cert.ReferenceIdeal.nD).tc : Thread Cert.ReferenceIdeal.nD Cert.ReferenceIdeal.τ).loc
      Cert.ReferenceIdeal.main_arg0)), ?_, ?_⟩
  · exact (θ_run Cert.KernelIdeal.defs _ _).mono
      (fun _ h c => ⟨(h.1 c).1.trans (out_eq_total _ _ hagree c), (h.1 c).2⟩)
      (Cert.KernelIdeal.Run.run_result (F := Ideal) m ρ)
  · exact (θ_run Cert.ReferenceIdeal.defs _ _).mono (fun _ h => h 0)
      (Cert.ReferenceIdeal.Run.run_result (F := Ideal) m' ρ')

theorem claim : Cert.Claim :=
  ⟨Cert.Kernel.Gen.facts, Cert.KernelIdeal.Gen.facts, Cert.ReferenceIdeal.Gen.facts,
    frame_kernel, frame_ideal, frame_reference, trivial, algebraic⟩

end Cert.Proof

end
